-- ==== Defs.lean ====
def Pre_Kernel [hPre_swap_Kernel : Cert.Pre_swap_Kernel.Facts] (m : (ℓ : Loc Cert.Kernel.nD Cert.Kernel.τ Cert.Kernel.sig) → Buf (Elt Bits) ℓ) : Prop :=
  ∀ c : Dev Cert.Kernel.nD,
    (Cert.Pre_swap_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stay_Kernel [hPre_stay_Kernel : Cert.Pre_stay_Kernel.Facts] (m : (ℓ : Loc Cert.Kernel.nD Cert.Kernel.τ Cert.Kernel.sig) → Buf (Elt Bits) ℓ) : Prop :=
  ∀ c : Dev Cert.Kernel.nD,
    (Cert.Pre_stay_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swap_Kernel : Cert.Pre_swap_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swap_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stay_Kernel [hPre_stay_Kernel : Cert.Pre_stay_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stay_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swap_ReferenceIdeal [hPre_swap_ReferenceIdeal : Cert.Pre_swap_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swap_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stay_ReferenceIdeal [hPre_stay_ReferenceIdeal : Cert.Pre_stay_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stay_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swap_Kernel : Cert.Pre_swap_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stay_Kernel [hKernel : Cert.Kernel.Facts] [hPre_stay_Kernel : Cert.Pre_stay_Kernel.Facts] : Prop :=
  ∀ (m : (ℓ : Loc Cert.Kernel.nD Cert.Kernel.τ Cert.Kernel.sig) → Buf (Elt Bits) ℓ) (g : Dev Cert.Kernel.nD → PrngReg), Pre_Kernel_stay_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stay_Kernel [hKernelIdeal : Cert.KernelIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stay_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swap_ReferenceIdeal [hReferenceIdeal : Cert.ReferenceIdeal.Facts] [hPre_swap_ReferenceIdeal : Cert.Pre_swap_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swap_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stay_ReferenceIdeal [hReferenceIdeal : Cert.ReferenceIdeal.Facts] [hPre_stay_ReferenceIdeal : Cert.Pre_stay_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stay_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swap_Kernel : Cert.Pre_swap_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stay_Kernel [hKernelIdeal : Cert.KernelIdeal.Facts] [hReferenceIdeal : Cert.ReferenceIdeal.Facts] [hPre_stay_Kernel : Cert.Pre_stay_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stay_Kernel m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 4096, 2048]⟩ ⟨3, ![2, 4096, 2048]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swap_Kernel : Cert.Pre_swap_Kernel.Facts) (hPre_stay_Kernel : Cert.Pre_stay_Kernel.Facts) (hPre_swap_ReferenceIdeal : Cert.Pre_swap_ReferenceIdeal.Facts) (hPre_stay_ReferenceIdeal : Cert.Pre_stay_ReferenceIdeal.Facts),
    quiescent_Kernel (hKernel := hKernel) (hPre_swap_Kernel := hPre_swap_Kernel)
    ∧ quiescent_Kernel_pre_stay_Kernel (hKernel := hKernel) (hPre_stay_Kernel := hPre_stay_Kernel)
    ∧ quiescent_KernelIdeal (hKernelIdeal := hKernelIdeal) (hPre_swap_Kernel := hPre_swap_Kernel)
    ∧ quiescent_KernelIdeal_pre_stay_Kernel (hKernelIdeal := hKernelIdeal) (hPre_stay_Kernel := hPre_stay_Kernel)
    ∧ quiescent_ReferenceIdeal (hReferenceIdeal := hReferenceIdeal)
    ∧ quiescent_ReferenceIdeal_pre_swap_ReferenceIdeal (hReferenceIdeal := hReferenceIdeal) (hPre_swap_ReferenceIdeal := hPre_swap_ReferenceIdeal)
    ∧ quiescent_ReferenceIdeal_pre_stay_ReferenceIdeal (hReferenceIdeal := hReferenceIdeal) (hPre_stay_ReferenceIdeal := hPre_stay_ReferenceIdeal)
    ∧ preserves_Kernel_KernelIdeal
    ∧ algebraic_KernelIdeal_ReferenceIdeal (hKernelIdeal := hKernelIdeal) (hReferenceIdeal := hReferenceIdeal) (hPre_swap_Kernel := hPre_swap_Kernel)
    ∧ algebraic_KernelIdeal_ReferenceIdeal_pre_stay_Kernel (hKernelIdeal := hKernelIdeal) (hReferenceIdeal := hReferenceIdeal) (hPre_stay_Kernel := hPre_stay_Kernel)
-- ==== Pre_stay_Kernel.lean ====
abbrev S1x4096x2048 : Shape := ⟨3, ![1, 4096, 2048]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x4096x2048 .f32) (main_arg1 : IVec S2 32) : IVec S2 1 :=
  let main_c : IVec S2 32 := fun i => lit0 (S2.rowMajor i)
  let main_v0 : IVec S2 1 := cmpi .eq main_arg1 main_c
  main_v0
-- ==== Pre_stay_ReferenceIdeal.lean ====
abbrev S2x4096x2048 : Shape := ⟨3, ![2, 4096, 2048]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x4096x2048 .f32) (main_arg1 : IVec S2 32) : IVec S2 1 :=
  let main_c : IVec S2 32 := fun i => lit0 (S2.rowMajor i)
  let main_v0 : IVec S2 1 := cmpi .eq main_arg1 main_c
  main_v0
-- ==== Pre_swap_Kernel.lean ====
abbrev S1x4096x2048 : Shape := ⟨3, ![1, 4096, 2048]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x4096x2048 .f32) (main_arg1 : IVec S2 32) : IVec S2 1 :=
  let main_c : IVec S2 32 := fun i => lit0 (S2.rowMajor i)
  let main_v0 : IVec S2 1 := cmpi .eq main_arg1 main_c
  main_v0
-- ==== Pre_swap_ReferenceIdeal.lean ====
abbrev S2x4096x2048 : Shape := ⟨3, ![2, 4096, 2048]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x4096x2048 .f32) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x4096x2048 : Shape := ⟨3, ![1, 4096, 2048]⟩
abbrev S2 : Shape := ⟨1, ![2]⟩
abbrev S2x256x2048 : Shape := ⟨3, ![2, 256, 2048]⟩
abbrev S16x256x2048 : Shape := ⟨3, ![16, 256, 2048]⟩
abbrev S16 : Shape := ⟨1, ![16]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 3
  | .vmem => 4
  | .smem => 1
  | _ => 0

abbrev bufTy : (tb : Table) → Fin (tcTables nBuf tb) → BufTy
  | .hbm, ⟨0, _⟩ => ⟨S1x4096x2048, .f32⟩
  | .hbm, ⟨1, _⟩ => ⟨S2, .i32⟩
  | .hbm, ⟨2, _⟩ => ⟨S1x4096x2048, .f32⟩
  | .local _ .vmem, ⟨0, _⟩ => ⟨S2x256x2048, .f32⟩
  | .local _ .vmem, ⟨1, _⟩ => ⟨S2x256x2048, .f32⟩
  | .local _ .vmem, ⟨2, _⟩ => ⟨S16x256x2048, .bf16⟩
  | .local _ .vmem, ⟨3, _⟩ => ⟨S16x256x2048, .bf16⟩
  | .local _ .smem, ⟨0, _⟩ => ⟨S2, .i32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_5 : BitVec 32 := 0#32
  let c16_i32_4 : BitVec 32 := 16#32
  let v18 : BitVec 32 := Scalar.muli v10 c16_i32_4
  let v19 : BitVec 32 := Scalar.addi c0_i32_5 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v20 : BitVec 32 := Scalar.muli v5 c4_i32_6
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v22 : BitVec 32 := Scalar.muli v8 c1_i32_7
  let v23 : BitVec 32 := Scalar.addi v21 v22
  v23.toNat
def k0_cond2 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 1 := Scalar.cmpi .ne v10 v2
  let v15 : BitVec 32 := Scalar.extui v14
  let c0_i32_2 : BitVec 32 := 0#32
  let v16 : BitVec 1 := Scalar.cmpi .ne v15 c0_i32_2
  v16

def k0_dev2 (d0 : Dev nD) (v10 : BitVec 32) : Nat :=
  let c0_i32_39 : BitVec 32 := 0#32
  let c16_i32_38 : BitVec 32 := 16#32
  let v48 : BitVec 32 := Scalar.muli v10 c16_i32_38
  let v49 : BitVec 32 := Scalar.addi c0_i32_39 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v50 : BitVec 32 := Scalar.muli v5 c4_i32_40
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v52 : BitVec 32 := Scalar.muli v8 c1_i32_41
  let v53 : BitVec 32 := Scalar.addi v51 v52
  v53.toNat
def k0_dev3 (d0 : Dev nD) (v10 : BitVec 32) : Nat :=
  let c0_i32_69 : BitVec 32 := 0#32
  let c16_i32_68 : BitVec 32 := 16#32
  let v80 : BitVec 32 := Scalar.muli v10 c16_i32_68
  let v81 : BitVec 32 := Scalar.addi c0_i32_69 v80
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v82 : BitVec 32 := Scalar.muli v5 c4_i32_70
  let v83 : BitVec 32 := Scalar.addi v81 v82
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v84 : BitVec 32 := Scalar.muli v8 c1_i32_71
  let v85 : BitVec 32 := Scalar.addi v83 v84
  v85.toNat
def k0_dev4 (d0 : Dev nD) (v10 : BitVec 32) : Nat :=
  let c0_i32_99 : BitVec 32 := 0#32
  let c16_i32_98 : BitVec 32 := 16#32
  let v112 : BitVec 32 := Scalar.muli v10 c16_i32_98
  let v113 : BitVec 32 := Scalar.addi c0_i32_99 v112
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_100 : BitVec 32 := 4#32
  let v114 : BitVec 32 := Scalar.muli v5 c4_i32_100
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v116 : BitVec 32 := Scalar.muli v8 c1_i32_101
  let v117 : BitVec 32 := Scalar.addi v115 v116
  v117.toNat
def k0_dev5 (d0 : Dev nD) (v10 : BitVec 32) : Nat :=
  let c0_i32_128 : BitVec 32 := 0#32
  let c16_i32_127 : BitVec 32 := 16#32
  let v144 : BitVec 32 := Scalar.muli v10 c16_i32_127
  let v145 : BitVec 32 := Scalar.addi c0_i32_128 v144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_129 : BitVec 32 := 4#32
  let v146 : BitVec 32 := Scalar.muli v5 c4_i32_129
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v148 : BitVec 32 := Scalar.muli v8 c1_i32_130
  let v149 : BitVec 32 := Scalar.addi v147 v148
  v149.toNat
def k0_dev6 (d0 : Dev nD) (v10 : BitVec 32) : Nat :=
  let c0_i32_158 : BitVec 32 := 0#32
  let c16_i32_157 : BitVec 32 := 16#32
  let v176 : BitVec 32 := Scalar.muli v10 c16_i32_157
  let v177 : BitVec 32 := Scalar.addi c0_i32_158 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_159 : BitVec 32 := 4#32
  let v178 : BitVec 32 := Scalar.muli v5 c4_i32_159
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v180 : BitVec 32 := Scalar.muli v8 c1_i32_160
  let v181 : BitVec 32 := Scalar.addi v179 v180
  v181.toNat
def k0_dev7 (d0 : Dev nD) (v10 : BitVec 32) : Nat :=
  let c0_i32_187 : BitVec 32 := 0#32
  let c16_i32_186 : BitVec 32 := 16#32
  let v208 : BitVec 32 := Scalar.muli v10 c16_i32_186
  let v209 : BitVec 32 := Scalar.addi c0_i32_187 v208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_188 : BitVec 32 := 4#32
  let v210 : BitVec 32 := Scalar.muli v5 c4_i32_188
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_189 : BitVec 32 := 1#32
  let v212 : BitVec 32 := Scalar.muli v8 c1_i32_189
  let v213 : BitVec 32 := Scalar.addi v211 v212
  v213.toNat
def k0_dev8 (d0 : Dev nD) (v10 : BitVec 32) : Nat :=
  let c0_i32_216 : BitVec 32 := 0#32
  let c16_i32_215 : BitVec 32 := 16#32
  let v240 : BitVec 32 := Scalar.muli v10 c16_i32_215
  let v241 : BitVec 32 := Scalar.addi c0_i32_216 v240
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_217 : BitVec 32 := 4#32
  let v242 : BitVec 32 := Scalar.muli v5 c4_i32_217
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v244 : BitVec 32 := Scalar.muli v8 c1_i32_218
  let v245 : BitVec 32 := Scalar.addi v243 v244
  v245.toNat
def k0_dev9 (d0 : Dev nD) (v10 : BitVec 32) : Nat :=
  let c0_i32_245 : BitVec 32 := 0#32
  let c16_i32_244 : BitVec 32 := 16#32
  let v272 : BitVec 32 := Scalar.muli v10 c16_i32_244
  let v273 : BitVec 32 := Scalar.addi c0_i32_245 v272
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_246 : BitVec 32 := 4#32
  let v274 : BitVec 32 := Scalar.muli v5 c4_i32_246
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v276 : BitVec 32 := Scalar.muli v8 c1_i32_247
  let v277 : BitVec 32 := Scalar.addi v275 v276
  v277.toNat
def k0_dev10 (d0 : Dev nD) (v10 : BitVec 32) : Nat :=
  let c0_i32_274 : BitVec 32 := 0#32
  let c16_i32_273 : BitVec 32 := 16#32
  let v304 : BitVec 32 := Scalar.muli v10 c16_i32_273
  let v305 : BitVec 32 := Scalar.addi c0_i32_274 v304
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_275 : BitVec 32 := 4#32
  let v306 : BitVec 32 := Scalar.muli v5 c4_i32_275
  let v307 : BitVec 32 := Scalar.addi v305 v306
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_276 : BitVec 32 := 1#32
  let v308 : BitVec 32 := Scalar.muli v8 c1_i32_276
  let v309 : BitVec 32 := Scalar.addi v307 v308
  v309.toNat
def k0_dev11 (d0 : Dev nD) (v10 : BitVec 32) : Nat :=
  let c0_i32_303 : BitVec 32 := 0#32
  let c16_i32_302 : BitVec 32 := 16#32
  let v336 : BitVec 32 := Scalar.muli v10 c16_i32_302
  let v337 : BitVec 32 := Scalar.addi c0_i32_303 v336
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_304 : BitVec 32 := 4#32
  let v338 : BitVec 32 := Scalar.muli v5 c4_i32_304
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_305 : BitVec 32 := 1#32
  let v340 : BitVec 32 := Scalar.muli v8 c1_i32_305
  let v341 : BitVec 32 := Scalar.addi v339 v340
  v341.toNat
def k0_dev12 (d0 : Dev nD) (v10 : BitVec 32) : Nat :=
  let c0_i32_332 : BitVec 32 := 0#32
  let c16_i32_331 : BitVec 32 := 16#32
  let v368 : BitVec 32 := Scalar.muli v10 c16_i32_331
  let v369 : BitVec 32 := Scalar.addi c0_i32_332 v368
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v370 : BitVec 32 := Scalar.muli v5 c4_i32_333
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_334 : BitVec 32 := 1#32
  let v372 : BitVec 32 := Scalar.muli v8 c1_i32_334
  let v373 : BitVec 32 := Scalar.addi v371 v372
  v373.toNat
def k0_dev13 (d0 : Dev nD) (v10 : BitVec 32) : Nat :=
  let c0_i32_361 : BitVec 32 := 0#32
  let c16_i32_360 : BitVec 32 := 16#32
  let v400 : BitVec 32 := Scalar.muli v10 c16_i32_360
  let v401 : BitVec 32 := Scalar.addi c0_i32_361 v400
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v402 : BitVec 32 := Scalar.muli v5 c4_i32_362
  let v403 : BitVec 32 := Scalar.addi v401 v402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v404 : BitVec 32 := Scalar.muli v8 c1_i32_363
  let v405 : BitVec 32 := Scalar.addi v403 v404
  v405.toNat
def k0_dev14 (d0 : Dev nD) (v10 : BitVec 32) : Nat :=
  let c0_i32_390 : BitVec 32 := 0#32
  let c16_i32_389 : BitVec 32 := 16#32
  let v432 : BitVec 32 := Scalar.muli v10 c16_i32_389
  let v433 : BitVec 32 := Scalar.addi c0_i32_390 v432
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_391 : BitVec 32 := 4#32
  let v434 : BitVec 32 := Scalar.muli v5 c4_i32_391
  let v435 : BitVec 32 := Scalar.addi v433 v434
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v436 : BitVec 32 := Scalar.muli v8 c1_i32_392
  let v437 : BitVec 32 := Scalar.addi v435 v436
  v437.toNat
def k0_dev15 (d0 : Dev nD) (v10 : BitVec 32) : Nat :=
  let c0_i32_419 : BitVec 32 := 0#32
  let c16_i32_418 : BitVec 32 := 16#32
  let v464 : BitVec 32 := Scalar.muli v10 c16_i32_418
  let v465 : BitVec 32 := Scalar.addi c0_i32_419 v464
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_420 : BitVec 32 := 4#32
  let v466 : BitVec 32 := Scalar.muli v5 c4_i32_420
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_421 : BitVec 32 := 1#32
  let v468 : BitVec 32 := Scalar.muli v8 c1_i32_421
  let v469 : BitVec 32 := Scalar.addi v467 v468
  v469.toNat
def k0_dev16 (d0 : Dev nD) (v10 : BitVec 32) : Nat :=
  let c0_i32_448 : BitVec 32 := 0#32
  let c16_i32_447 : BitVec 32 := 16#32
  let v496 : BitVec 32 := Scalar.muli v10 c16_i32_447
  let v497 : BitVec 32 := Scalar.addi c0_i32_448 v496
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_449 : BitVec 32 := 4#32
  let v498 : BitVec 32 := Scalar.muli v5 c4_i32_449
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_450 : BitVec 32 := 1#32
  let v500 : BitVec 32 := Scalar.muli v8 c1_i32_450
  let v501 : BitVec 32 := Scalar.addi v499 v500
  v501.toNat
def k0_dev17 (d0 : Dev nD) (v10 : BitVec 32) : Nat :=
  let c0_i32_471 : BitVec 32 := 0#32
  let c16_i32_470 : BitVec 32 := 16#32
  let v522 : BitVec 32 := Scalar.muli v10 c16_i32_470
  let v523 : BitVec 32 := Scalar.addi c0_i32_471 v522
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_472 : BitVec 32 := 4#32
  let v524 : BitVec 32 := Scalar.muli v5 c4_i32_472
  let v525 : BitVec 32 := Scalar.addi v523 v524
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_473 : BitVec 32 := 1#32
  let v526 : BitVec 32 := Scalar.muli v8 c1_i32_473
  let v527 : BitVec 32 := Scalar.addi v525 v526
  v527.toNat

def k0_chk1 (d0 : Dev nD) (v10 : BitVec 32) : Prop :=
  (∀ (k0_h2 : k0_cond2 d0 v10 = 1#1), (k0_dev1 d0 v10) < nD) ∧
  (∀ (k0_h2 : k0_cond2 d0 v10 = 1#1), (k0_dev2 d0 v10) < nD) ∧
  (∀ (k0_h2 : k0_cond2 d0 v10 = 1#1), (k0_dev3 d0 v10) < nD) ∧
  (∀ (k0_h2 : k0_cond2 d0 v10 = 1#1), (k0_dev4 d0 v10) < nD) ∧
  (∀ (k0_h2 : k0_cond2 d0 v10 = 1#1), (k0_dev5 d0 v10) < nD) ∧
  (∀ (k0_h2 : k0_cond2 d0 v10 = 1#1), (k0_dev6 d0 v10) < nD) ∧
  (∀ (k0_h2 : k0_cond2 d0 v10 = 1#1), (k0_dev7 d0 v10) < nD) ∧
  (∀ (k0_h2 : k0_cond2 d0 v10 = 1#1), (k0_dev8 d0 v10) < nD) ∧
  (∀ (k0_h2 : k0_cond2 d0 v10 = 1#1), (k0_dev9 d0 v10) < nD) ∧
  (∀ (k0_h2 : k0_cond2 d0 v10 = 1#1), (k0_dev10 d0 v10) < nD) ∧
  (∀ (k0_h2 : k0_cond2 d0 v10 = 1#1), (k0_dev11 d0 v10) < nD) ∧
  (∀ (k0_h2 : k0_cond2 d0 v10 = 1#1), (k0_dev12 d0 v10) < nD) ∧
  (∀ (k0_h2 : k0_cond2 d0 v10 = 1#1), (k0_dev13 d0 v10) < nD) ∧
  (∀ (k0_h2 : k0_cond2 d0 v10 = 1#1), (k0_dev14 d0 v10) < nD) ∧
  (∀ (k0_h2 : k0_cond2 d0 v10 = 1#1), (k0_dev15 d0 v10) < nD) ∧
  (∀ (k0_h2 : k0_cond2 d0 v10 = 1#1), (k0_dev16 d0 v10) < nD) ∧
  (∀ (k0_h2 : k0_cond2 d0 v10 = 1#1), (k0_dev17 d0 v10) < nD)
theorem k0_dev1_lt : ∀ (d0 : Dev nD) (v10 : BitVec 32) (k0_hw1 : k0_chk1 d0 v10), ∀ (k0_h2 : k0_cond2 d0 v10 = 1#1), (k0_dev1 d0 v10) < nD := fun d0 v10 k0_hw1 k0_h2 => k0_hw1.1 k0_h2
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.2.1 k0_h2
theorem k0_dev3_lt : ∀ (d0 : Dev nD) (v10 : BitVec 32) (k0_hw1 : k0_chk1 d0 v10), ∀ (k0_h2 : k0_cond2 d0 v10 = 1#1), (k0_dev3 d0 v10) < nD := fun d0 v10 k0_hw1 k0_h2 => k0_hw1.2.2.1 k0_h2
theorem k0_dev4_lt : ∀ (d0 : Dev nD) (v10 : BitVec 32) (k0_hw1 : k0_chk1 d0 v10), ∀ (k0_h2 : k0_cond2 d0 v10 = 1#1), (k0_dev4 d0 v10) < nD := fun d0 v10 k0_hw1 k0_h2 => k0_hw1.2.2.2.1 k0_h2
theorem k0_dev5_lt : ∀ (d0 : Dev nD) (v10 : BitVec 32) (k0_hw1 : k0_chk1 d0 v10), ∀ (k0_h2 : k0_cond2 d0 v10 = 1#1), (k0_dev5 d0 v10) < nD := fun d0 v10 k0_hw1 k0_h2 => k0_hw1.2.2.2.2.1 k0_h2
theorem k0_dev6_lt : ∀ (d0 : Dev nD) (v10 : BitVec 32) (k0_hw1 : k0_chk1 d0 v10), ∀ (k0_h2 : k0_cond2 d0 v10 = 1#1), (k0_dev6 d0 v10) < nD := fun d0 v10 k0_hw1 k0_h2 => k0_hw1.2.2.2.2.2.1 k0_h2
theorem k0_dev7_lt : ∀ (d0 : Dev nD) (v10 : BitVec 32) (k0_hw1 : k0_chk1 d0 v10), ∀ (k0_h2 : k0_cond2 d0 v10 = 1#1), (k0_dev7 d0 v10) < nD := fun d0 v10 k0_hw1 k0_h2 => k0_hw1.2.2.2.2.2.2.1 k0_h2
theorem k0_dev8_lt : ∀ (d0 : Dev nD) (v10 : BitVec 32) (k0_hw1 : k0_chk1 d0 v10), ∀ (k0_h2 : k0_cond2 d0 v10 = 1#1), (k0_dev8 d0 v10) < nD := fun d0 v10 k0_hw1 k0_h2 => k0_hw1.2.2.2.2.2.2.2.1 k0_h2
theorem k0_dev9_lt : ∀ (d0 : Dev nD) (v10 : BitVec 32) (k0_hw1 : k0_chk1 d0 v10), ∀ (k0_h2 : k0_cond2 d0 v10 = 1#1), (k0_dev9 d0 v10) < nD := fun d0 v10 k0_hw1 k0_h2 => k0_hw1.2.2.2.2.2.2.2.2.1 k0_h2
theorem k0_dev10_lt : ∀ (d0 : Dev nD) (v10 : BitVec 32) (k0_hw1 : k0_chk1 d0 v10), ∀ (k0_h2 : k0_cond2 d0 v10 = 1#1), (k0_dev10 d0 v10) < nD := fun d0 v10 k0_hw1 k0_h2 => k0_hw1.2.2.2.2.2.2.2.2.2.1 k0_h2
theorem k0_dev11_lt : ∀ (d0 : Dev nD) (v10 : BitVec 32) (k0_hw1 : k0_chk1 d0 v10), ∀ (k0_h2 : k0_cond2 d0 v10 = 1#1), (k0_dev11 d0 v10) < nD := fun d0 v10 k0_hw1 k0_h2 => k0_hw1.2.2.2.2.2.2.2.2.2.2.1 k0_h2
theorem k0_dev12_lt : ∀ (d0 : Dev nD) (v10 : BitVec 32) (k0_hw1 : k0_chk1 d0 v10), ∀ (k0_h2 : k0_cond2 d0 v10 = 1#1), (k0_dev12 d0 v10) < nD := fun d0 v10 k0_hw1 k0_h2 => k0_hw1.2.2.2.2.2.2.2.2.2.2.2.1 k0_h2
theorem k0_dev13_lt : ∀ (d0 : Dev nD) (v10 : BitVec 32) (k0_hw1 : k0_chk1 d0 v10), ∀ (k0_h2 : k0_cond2 d0 v10 = 1#1), (k0_dev13 d0 v10) < nD := fun d0 v10 k0_hw1 k0_h2 => k0_hw1.2.2.2.2.2.2.2.2.2.2.2.2.1 k0_h2
theorem k0_dev14_lt : ∀ (d0 : Dev nD) (v10 : BitVec 32) (k0_hw1 : k0_chk1 d0 v10), ∀ (k0_h2 : k0_cond2 d0 v10 = 1#1), (k0_dev14 d0 v10) < nD := fun d0 v10 k0_hw1 k0_h2 => k0_hw1.2.2.2.2.2.2.2.2.2.2.2.2.2.1 k0_h2
theorem k0_dev15_lt : ∀ (d0 : Dev nD) (v10 : BitVec 32) (k0_hw1 : k0_chk1 d0 v10), ∀ (k0_h2 : k0_cond2 d0 v10 = 1#1), (k0_dev15 d0 v10) < nD := fun d0 v10 k0_hw1 k0_h2 => k0_hw1.2.2.2.2.2.2.2.2.2.2.2.2.2.2.1 k0_h2
theorem k0_dev16_lt : ∀ (d0 : Dev nD) (v10 : BitVec 32) (k0_hw1 : k0_chk1 d0 v10), ∀ (k0_h2 : k0_cond2 d0 v10 = 1#1), (k0_dev16 d0 v10) < nD := fun d0 v10 k0_hw1 k0_h2 => k0_hw1.2.2.2.2.2.2.2.2.2.2.2.2.2.2.2.1 k0_h2
theorem k0_dev17_lt : ∀ (d0 : Dev nD) (v10 : BitVec 32) (k0_hw1 : k0_chk1 d0 v10), ∀ (k0_h2 : k0_cond2 d0 v10 = 1#1), (k0_dev17 d0 v10) < nD := fun d0 v10 k0_hw1 k0_h2 => k0_hw1.2.2.2.2.2.2.2.2.2.2.2.2.2.2.2.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Program.lean ====
/-
The exchange kernel restated as two loops over its sixteen chunks.

The printed body is a straight line: sixteen times "read a chunk of rows, narrow it, send it to the
peer", then sixteen times "await a chunk, widen it, write it out". Here each step is ONE definition at
a symbolic chunk `k`, and the body is proved equal to the two loops by unfolding.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Regions
public import Idealize.ShloMosaic.Lib.Tactic

@[expose] public section

set_option synthInstance.maxSize 4096

noncomputable section

namespace Cert.KernelIdeal.Exchange

open Cert.KernelIdeal Cert.KernelIdeal.Gen
open Idealize.ShloMosaic Idealize.SL.Sem
open Idealize.ShloMosaic.TcCoe

variable {F : FTy → Type} [FloatOps F]

/-- The programs of a kernel body on a device. -/
abbrev KProg (F : FTy → Type) [FloatOps F] (α : Type) : Type 1 := Prog (TpuEff nD τ sig (Elt F) Λ₀ .tc) α

/-! ## The slots, at a symbolic chunk -/

/-- The half of a two-slot buffer chunk `k` uses: even chunks the first, odd ones the second. -/
def par (k : Fin 16) : Fin 2 := ⟨k.val % 2, Nat.mod_lt _ (by decide)⟩

theorem inbRow : ∀ k : Fin 16, ∀ a, (![0, 256 * k.val, 0] : Fin 3 → Nat) a + S1x256x2048.size a ≤ S1x4096x2048.size a := by decide
theorem inbTwo : ∀ s : Fin 2, ∀ a, (![s.val, 0, 0] : Fin 3 → Nat) a + S1x256x2048.size a ≤ S2x256x2048.size a := by decide
theorem inbSlot : ∀ k : Fin 16, ∀ a, (![k.val, 0, 0] : Fin 3 → Nat) a + S1x256x2048.size a ≤ S16x256x2048.size a := by decide
theorem inbSem2 : ∀ s : Fin 2, ∀ a, (![s.val] : Fin 1 → Nat) a + S1.size a ≤ S2.size a := by decide
theorem inbSem16 : ∀ k : Fin 16, ∀ a, (![k.val] : Fin 1 → Nat) a + S1.size a ≤ S16.size a := by decide

/-- Rows `256 k … 256 k + 255` of a block of 4096 rows. -/
abbrev rRow (k : Fin 16) : Rect S1x4096x2048 := Rect.unit (s := S1x4096x2048) ![0, 256 * k.val, 0] S1x256x2048.size (inbRow k)
/-- One half of a two-slot buffer. -/
abbrev rTwo (s : Fin 2) : Rect S2x256x2048 := Rect.unit (s := S2x256x2048) ![s.val, 0, 0] S1x256x2048.size (inbTwo s)
/-- One slot of a sixteen-slot buffer. -/
abbrev rSlot (k : Fin 16) : Rect S16x256x2048 := Rect.unit (s := S16x256x2048) ![k.val, 0, 0] S1x256x2048.size (inbSlot k)

theorem packedSlot : ∀ k : Fin 16, (rSlot k).PackedRows (EltTy.packing .bf16) := by decide
theorem wordsSlot : ∀ k : Fin 16, (rSlot k).WholeWords (EltTy.packing .bf16) := by decide

abbrev xM : Memref sig .tc .hbm S1x4096x2048 .f32 := Memref.whole main_arg0
abbrev oM : Memref sig .tc .hbm S1x4096x2048 .f32 := Memref.whole main_v1
abbrev vM : Memref sig .tc .vmem S2x256x2048 .f32 := Memref.whole cc0_scratch0
abbrev wM : Memref sig .tc .vmem S2x256x2048 .f32 := Memref.whole cc0_scratch1
abbrev sM : Memref sig .tc .vmem S16x256x2048 .bf16 := Memref.whole cc0_scratch2
abbrev rM : Memref sig .tc .vmem S16x256x2048 .bf16 := Memref.whole cc0_scratch3
theorem hsM : (sM).IsWhole := Memref.isWhole_whole _
theorem hrM : (rM).IsWhole := Memref.isWhole_whole _

/-- Chunk `k` of the rows of `x`. -/
abbrev xRow (k : Fin 16) : Memref sig .tc .hbm S256x2048 .f32 :=
  (xM.slice (rRow k) (fun _ => rfl)).squeeze S256x2048 squeezes_S1x256x2048_S256x2048
/-- Chunk `k` of the rows of the result. -/
abbrev oRow (k : Fin 16) : Memref sig .tc .hbm S256x2048 .f32 :=
  (oM.slice (rRow k) (fun _ => rfl)).squeeze S256x2048 squeezes_S1x256x2048_S256x2048
/-- A half of the read buffer. -/
abbrev vTwo (s : Fin 2) : Memref sig .tc .vmem S256x2048 .f32 :=
  (vM.slice (rTwo s) (fun _ => rfl)).squeeze S256x2048 squeezes_S1x256x2048_S256x2048
/-- A half of the write buffer. -/
abbrev wTwo (s : Fin 2) : Memref sig .tc .vmem S256x2048 .f32 :=
  (wM.slice (rTwo s) (fun _ => rfl)).squeeze S256x2048 squeezes_S1x256x2048_S256x2048
/-- Slot `k` of the send buffer. -/
abbrev sSlot (k : Fin 16) : Memref sig .tc .vmem S256x2048 .bf16 :=
  (sM.slice (rSlot k) (fun _ => rfl)).squeeze S256x2048 squeezes_S1x256x2048_S256x2048
/-- Slot `k` of the receive buffer. -/
abbrev rcSlot (k : Fin 16) : Memref sig .tc .vmem S256x2048 .bf16 :=
  (rM.slice (rSlot k) (fun _ => rfl)).squeeze S256x2048 squeezes_S1x256x2048_S256x2048

abbrev inSem (s : Fin 2) := ((cc0_scratch4.slice (Rect.unit (s := S2) ![s.val] S1.size (inbSem2 s))).squeeze S_ squeezes_S1_S_).sem
abbrev outSem (s : Fin 2) := ((cc0_scratch5.slice (Rect.unit (s := S2) ![s.val] S1.size (inbSem2 s))).squeeze S_ squeezes_S1_S_).sem
abbrev sendSem (k : Fin 16) := ((cc0_scratch6.slice (Rect.unit (s := S16) ![k.val] S1.size (inbSem16 k))).squeeze S_ squeezes_S1_S_).sem
abbrev recvSem (k : Fin 16) := ((cc0_scratch7.slice (Rect.unit (s := S16) ![k.val] S1.size (inbSem16 k))).squeeze S_ squeezes_S1_S_).sem
abbrev ownSem := cc0_scratch8.sem
abbrev barSem := (SemArray.scalar (sig.barrier 0 rfl) : Sems sig S_).sem

/-- A chunk narrowed for the wire. -/
def narrow (v : Vec F S1x256x2048 .f32) : FVec F S1x256x2048 .bf16 :=
  shapeCast S1x256x2048 (truncf .bf16 (shapeCast S256x2048 v shapeCasts_S1x256x2048_S256x2048) bitsLt_bf16_f32) shapeCasts_S256x2048_S1x256x2048

/-- A chunk widened again. -/
def widen (v : Vec F S1x256x2048 .bf16) : FVec F S1x256x2048 .f32 :=
  shapeCast S1x256x2048 (extf .f32 (shapeCast S256x2048 v shapeCasts_S1x256x2048_S256x2048) bitsLt_bf16_f32) shapeCasts_S256x2048_S1x256x2048

/-! ## The steps -/

/-- Start copying chunk `k` of `x` into its half of the read buffer. -/
def inStart (k : Fin 16) : KProg F Unit :=
  Prog.lift (.enqueueDma (xRow k) (.here (vTwo (par k))) (.dma (inSem (par k))) ((View.wordExact_bits rfl).reshape _ _) ((View.wordExact_bits rfl).reshape _ _) ⟨Or.inl rfl, trivial⟩)

/-- Await that copy. -/
def inWait (k : Fin 16) : KProg F Unit :=
  Prog.lift (.waitDma2 (inSem (par k)) (xRow k) (vTwo (par k)) ((View.wordExact_bits rfl).reshape _ _) ((View.wordExact_bits rfl).reshape _ _))

/-- Start copying a half of the write buffer to chunk `k` of the result. -/
def outStart (k : Fin 16) : KProg F Unit :=
  Prog.lift (.enqueueDma (wTwo (par k)) (.here (oRow k)) (.dma (outSem (par k))) ((View.wordExact_bits rfl).reshape _ _) ((View.wordExact_bits rfl).reshape _ _) ⟨Or.inl rfl, trivial⟩)

/-- Await that copy. -/
def outWait (k : Fin 16) : KProg F Unit :=
  Prog.lift (.waitDma2 (outSem (par k)) (wTwo (par k)) (oRow k) ((View.wordExact_bits rfl).reshape _ _) ((View.wordExact_bits rfl).reshape _ _))

/-- Narrow chunk `k` into its send slot. -/
def pack (k : Fin 16) : KProg F Unit := do
  let v : Vec F S1x256x2048 .f32 ← Prog.lift (.load vM (rTwo (par k)).toLoadRect (View.loadsAt_vmem h_S1x256x2048))
  let _u : Vec F S1x256x2048 .bf16 ← Prog.lift (.load sM (rSlot k).toLoadRect (View.loadsAt_vmem h_S1x256x2048))
  Prog.lift (.store sM (rSlot k) (narrow v) Finset.univ (View.stores_vmem h_S1x256x2048 (hsM.storeExact_slice rfl _ (packedSlot k)) (fun _ => rfl)) (.inl rfl))

/-- Send slot `k` to device `p`. -/
def push (p : Dev nD) (k : Fin 16) : KProg F Unit :=
  Prog.lift (.enqueueDma (sSlot k) (.remote (Dev.tc p) (rcSlot k) (.dma (sendSem k))) (.dma (recvSem k)) ((hsM.wordExact_slice rfl _ (wordsSlot k)).reshape _ _) ((hrM.wordExact_slice rfl _ (wordsSlot k)).reshape _ _) ⟨⟨rfl, Or.inl rfl⟩, trivial⟩)

/-- Await chunk `k` from the peer. -/
def pull (k : Fin 16) : KProg F Unit :=
  Prog.lift (.waitDma2 (recvSem k) (sSlot k) (rcSlot k) ((hsM.wordExact_slice rfl _ (wordsSlot k)).reshape _ _) ((hrM.wordExact_slice rfl _ (wordsSlot k)).reshape _ _))

/-- Widen receive slot `k` into its half of the write buffer. -/
def unpack (k : Fin 16) : KProg F Unit := do
  let v : Vec F S1x256x2048 .bf16 ← Prog.lift (.load rM (rSlot k).toLoadRect (View.loadsAt_vmem h_S1x256x2048))
  let _u : Vec F S1x256x2048 .f32 ← Prog.lift (.load wM (rTwo (par k)).toLoadRect (View.loadsAt_vmem h_S1x256x2048))
  Prog.lift (.store wM (rTwo (par k)) (widen v) Finset.univ (View.stores_vmem_bits_univ h_S1x256x2048 rfl) (.inl rfl))

/-- Await that the send of slot `k` has left. -/
def sent (k : Fin 16) : KProg F Unit :=
  Prog.lift (.waitDma2 (sendSem k) (rcSlot k) (sSlot k) ((hrM.wordExact_slice rfl _ (wordsSlot k)).reshape _ _) ((hsM.wordExact_slice rfl _ (wordsSlot k)).reshape _ _))

/-- Start the copy of the chunk after `k`, when there is one. -/
def inNext (k : Fin 16) : KProg F Unit := if h : k.val + 1 < 16 then inStart ⟨k.val + 1, h⟩ else pure ⟨⟩

/-- Await the write of the chunk two before `k`, when there is one. -/
def outPrev (k : Fin 16) : KProg F Unit := if h : 2 ≤ k.val then outWait ⟨k.val - 2, by omega⟩ else pure ⟨⟩

def sendStep (p : Dev nD) (k : Fin 16) : KProg F Unit := do
  inNext k
  inWait k
  pack k
  push p k

def recvStep (k : Fin 16) : KProg F Unit := do
  pull k
  outPrev k
  unpack k
  outStart k

/-- The last `n` of sixteen steps, in order. -/
def steps (f : Fin 16 → KProg F Unit) : (n : ℕ) → n ≤ 16 → KProg F Unit
  | 0, _ => pure ⟨⟩
  | n + 1, h => do
    f ⟨15 - n, by omega⟩
    steps f n (Nat.le_of_succ_le h)

/-- All sixteen. -/
def all (f : Fin 16 → KProg F Unit) : KProg F Unit := steps f 16 (Nat.le_refl _)

/-- The exchange with device `p`. -/
def exchange (p : Dev nD) : KProg F Unit := do
  semSignalWord p barSem 1#32
  semWaitWord barSem 1#32
  inStart 0
  all (sendStep p)
  all recvStep
  outWait 14
  outWait 15
  all sent

/-- The local copy of a device that keeps its block. -/
def keep : KProg F Unit := do
  Prog.lift (.enqueueDma xM (.here oM) (.dma ownSem) (Memref.isWhole_whole main_arg0).wordExact (Memref.isWhole_whole main_v1).wordExact ⟨Or.inl rfl, trivial⟩)
  Prog.lift (.waitDma2 ownSem xM oM (Memref.isWhole_whole main_arg0).wordExact (Memref.isWhole_whole main_v1).wordExact)

/-- The word of `x`-axis coordinate the body compares with. -/
abbrev coord (c : Dev nD) : BitVec 32 := Scalar.remsi (Scalar.divsi (Dev.word c) 16#32) 2#32

/-- The body over its word of `pi`: keep the block when the word names this device's own, else exchange. -/
def body (arg0 : Memref sig .tc .smem S2 .i32) : KProg F Unit := do
  let d0 : Dev nD ← Prog.lift .deviceId
  let v10 : Elt F .i32 ← smemLoad arg0 (Rect.unit (s := S2) (k0_off1 d0) S1.size (k0_off1_inb d0)) numel1_S1 rfl
  have hw : k0_chk1 d0 v10 := (← Prog.lift (TpuEff.assume (k0_chk1 d0 v10) (k0_chk1.dec d0 v10))).down
  if Scalar.cmpi .ne (Scalar.extui (Scalar.cmpi .eq v10 (coord d0)) : BitVec 32) 0#32 = 1#1 then do
    keep
  else do
    pure ⟨⟩
  if h2 : k0_cond2 d0 v10 = 1#1 then do
    exchange (⟨k0_dev1 d0 v10, k0_dev1_lt d0 v10 hw h2⟩ : Dev nD)
  else do
    pure ⟨⟩
  pure ⟨⟩

/-- The printed body, on what the launch calls it with, is this one. -/
theorem body_eq (arg0 : Memref sig .tc .smem S2 .i32) (h0 : arg0.IsWhole) :
    cc0_body (F := F) arg0 h0 xM (Memref.isWhole_whole _) oM (Memref.isWhole_whole _) vM (Memref.isWhole_whole _) wM (Memref.isWhole_whole _)
      sM (Memref.isWhole_whole _) rM (Memref.isWhole_whole _) cc0_scratch4 cc0_scratch5 cc0_scratch6 cc0_scratch7 cc0_scratch8
      = body arg0 := by
  chain_rfl

end Cert.KernelIdeal.Exchange
end
-- ==== Proof.Values.lean ====
/-
What each buffer holds while the kernel runs, as ONE function of the index per buffer.

A chunk moves from the rows of `x` to a half of the read buffer, narrowed to a slot of the send buffer,
across to the same slot of the peer's receive buffer, widened to a half of the write buffer and out to the
same rows of the result. Each move is one lemma here, at a symbolic chunk: on the elements it writes, the
buffer then holds the function named for it.
-/
module

public import proofs.«01_k».proof.Proof.Program
public import Idealize.ShloMosaic.Lib.ViewIndex

@[expose] public section

noncomputable section

namespace Cert.KernelIdeal.Exchange

open Cert.KernelIdeal Cert.KernelIdeal.Gen
open Idealize.ShloMosaic
open Idealize.ShloMosaic.TcCoe

variable {F : FTy → Type} [FloatOps F]

/-- One element narrowed. -/
def down (a : Elt F .f32) : Elt F .bf16 := FloatOps.truncf (φ := .f32) .bf16 bitsLt_bf16_f32 a
/-- One element widened. -/
def up (a : Elt F .bf16) : Elt F .f32 := FloatOps.extf (φ := .bf16) .f32 bitsLt_bf16_f32 a

theorem narrow_apply (v : Vec F S1x256x2048 .f32) (y : S1x256x2048.Idx) : narrow v y = down (v y) := by
  show down (v (Shape.reshapeEquiv _ (Shape.reshapeEquiv _ y))) = down (v y)
  rw [Shape.reshapeEquiv_reshapeEquiv, Shape.reshapeEquiv_self]

theorem widen_apply (v : Vec F S1x256x2048 .bf16) (y : S1x256x2048.Idx) : widen v y = up (v y) := by
  show up (v (Shape.reshapeEquiv _ (Shape.reshapeEquiv _ y))) = up (v y)
  rw [Shape.reshapeEquiv_reshapeEquiv, Shape.reshapeEquiv_self]

/-! ## The contents -/

/-- An index of a buffer of slots, within its slot. -/
def within {n : ℕ} (i : (⟨3, ![n, 256, 2048]⟩ : Shape).Idx) : S1x256x2048.Idx := fun a =>
  match a with
  | ⟨0, _⟩ => ⟨0, Nat.one_pos⟩
  | ⟨1, _⟩ => ⟨(i 1).val, (i 1).isLt⟩
  | ⟨2, _⟩ => ⟨(i 2).val, (i 2).isLt⟩

/-- The read buffer's half while it holds chunk `k` of `X`. -/
def readC (X : S1x4096x2048.Idx → Elt F .f32) (k : Fin 16) : S2x256x2048.Idx → Elt F .f32 :=
  fun i => X ((rRow k).emb (within i))
/-- The send buffer, and the peer's receive buffer, full of the narrowed chunks of `X`. -/
def wireC (X : S1x4096x2048.Idx → Elt F .f32) : S16x256x2048.Idx → Elt F .bf16 :=
  fun i => down (X ((rRow (i 0)).emb (within i)))
/-- The write buffer's half while it holds chunk `k` of the peer's `X`. -/
def writeC (X : S1x4096x2048.Idx → Elt F .f32) (k : Fin 16) : S2x256x2048.Idx → Elt F .f32 :=
  fun i => up (down (X ((rRow k).emb (within i))))
/-- The result: the peer's `X`, narrowed and widened. -/
def resultC (X : S1x4096x2048.Idx → Elt F .f32) : S1x4096x2048.Idx → Elt F .f32 := fun i => up (down (X i))

theorem within_two (s : Fin 2) (y : S1x256x2048.Idx) : within ((rTwo s).emb y) = y :=
  Shape.idx3_ext (d := ![1, 256, 2048]) (Nat.lt_one_iff.mp (y 0).isLt).symm
    (by show (0 + 1 * (y 1).val) = _; omega) (by show (0 + 1 * (y 2).val) = _; omega)

theorem within_slot (k : Fin 16) (y : S1x256x2048.Idx) : within ((rSlot k).emb y) = y :=
  Shape.idx3_ext (d := ![1, 256, 2048]) (Nat.lt_one_iff.mp (y 0).isLt).symm
    (by show (0 + 1 * (y 1).val) = _; omega) (by show (0 + 1 * (y 2).val) = _; omega)

theorem slot_of (k : Fin 16) (y : S1x256x2048.Idx) : (rSlot k).emb y 0 = k :=
  Fin.ext (by show k.val + 1 * (y 0).val = k.val; rw [Nat.lt_one_iff.mp (y 0).isLt]; rfl)

/-! ## The moves -/

/-- A transfer between two squeezed windows leaves, under each index of the destination's window, what the
    source held under the same index of its own. -/
theorem moved {sig : RefSig} {κ : Kind} {Val : EltTy → Type} {sp sp' : Space} {s s' t : Shape} {e : EltTy}
    (v : View sig κ sp s e) (w : View sig κ sp' s' e) (hv : t.numel = s.numel) (hw : t.numel = s'.numel)
    (f : v.ty.Contents Val) (g : w.ty.Contents Val) (x : t.Idx) :
    (w.reshape t hw).write Val g ((v.reshape t hv).read Val f) Finset.univ (w.emb (Shape.reshapeEquiv hw x))
      = cast (congrArg Val w.elt_eq.symm) (cast (congrArg Val v.elt_eq) (f (v.emb (Shape.reshapeEquiv hv x)))) :=
  View.write_emb_of_mem (v := w.reshape t hw) g _ (Finset.mem_univ x)

theorem read_in (X : S1x4096x2048.Idx → Elt F .f32) (k : Fin 16) (s : Fin 2) (g : S2x256x2048.Idx → Elt F .f32)
    (i : S2x256x2048.Idx) (hi : i ∈ (vTwo s).view.set) :
    (vTwo s).view.write (Elt F) g ((xRow k).view.read (Elt F) X) Finset.univ i = readC X k i := by
  obtain ⟨x, -, rfl⟩ := Finset.mem_map.mp hi
  refine (moved (Val := Elt F) (xM.view.slice (rRow k)) (vM.view.slice (rTwo s)) (t := S256x2048) _ _ X g x).trans ?_
  show X ((rRow k).emb _) = X ((rRow k).emb (within ((rTwo s).emb _)))
  rw [within_two]; rfl

theorem packed (X : S1x4096x2048.Idx → Elt F .f32) (k : Fin 16) (s : Fin 2) (g : S16x256x2048.Idx → Elt F .bf16)
    (i : S16x256x2048.Idx) (hi : i ∈ (sM.access (rSlot k)).set) :
    (sM.access (rSlot k)).write (Elt F) g (narrow (vM.view.readAt (Elt F) (rTwo s).toLoadRect (readC X k))) Finset.univ i
      = wireC X i := by
  obtain ⟨y, -, rfl⟩ := Finset.mem_map.mp hi
  refine (View.write_emb_of_mem (v := sM.access (rSlot k)) g _ (Finset.mem_univ y)).trans ?_
  show narrow _ y = down (X ((rRow ((rSlot k).emb y 0)).emb (within ((rSlot k).emb y))))
  rw [narrow_apply, within_slot, slot_of]
  show down (X ((rRow k).emb (within ((rTwo s).emb y)))) = _
  rw [within_two]

theorem crossed (X : S1x4096x2048.Idx → Elt F .f32) (k : Fin 16) (g : S16x256x2048.Idx → Elt F .bf16)
    (i : S16x256x2048.Idx) (hi : i ∈ (rcSlot k).view.set) :
    (rcSlot k).view.write (Elt F) g ((sSlot k).view.read (Elt F) (wireC X)) Finset.univ i = wireC X i := by
  obtain ⟨x, -, rfl⟩ := Finset.mem_map.mp hi
  exact moved (Val := Elt F) (sM.view.slice (rSlot k)) (rM.view.slice (rSlot k)) (t := S256x2048) _ _ (wireC X) g x

theorem unpacked (X : S1x4096x2048.Idx → Elt F .f32) (k : Fin 16) (s : Fin 2) (g : S2x256x2048.Idx → Elt F .f32)
    (i : S2x256x2048.Idx) (hi : i ∈ (wM.access (rTwo s)).set) :
    (wM.access (rTwo s)).write (Elt F) g (widen (rM.view.readAt (Elt F) (rSlot k).toLoadRect (wireC X))) Finset.univ i
      = writeC X k i := by
  obtain ⟨y, -, rfl⟩ := Finset.mem_map.mp hi
  refine (View.write_emb_of_mem (v := wM.access (rTwo s)) g _ (Finset.mem_univ y)).trans ?_
  show widen _ y = up (down (X ((rRow k).emb (within ((rTwo s).emb y)))))
  rw [widen_apply, within_two]
  show up (down (X ((rRow ((rSlot k).emb y 0)).emb (within ((rSlot k).emb y))))) = _
  rw [within_slot, slot_of]

theorem read_out (X : S1x4096x2048.Idx → Elt F .f32) (k : Fin 16) (s : Fin 2) (g : S1x4096x2048.Idx → Elt F .f32)
    (i : S1x4096x2048.Idx) (hi : i ∈ (oRow k).view.set) :
    (oRow k).view.write (Elt F) g ((wTwo s).view.read (Elt F) (writeC X k)) Finset.univ i = resultC X i := by
  obtain ⟨x, -, rfl⟩ := Finset.mem_map.mp hi
  refine (moved (Val := Elt F) (wM.view.slice (rTwo s)) (oM.view.slice (rRow k)) (t := S256x2048) _ _ (writeC X k) g x).trans ?_
  show up (down (X ((rRow k).emb (within ((rTwo s).emb _))))) = up (down (X ((rRow k).emb _)))
  rw [within_two]; rfl

/-! ## The element sets -/

theorem set_vTwo (s : Fin 2) : (vTwo s).view.set = (rTwo s).set :=
  ((vM.view.slice (rTwo s)).set_reshape _).trans (View.set_slice_whole _ _)
theorem set_wTwo (s : Fin 2) : (wTwo s).view.set = (rTwo s).set :=
  ((wM.view.slice (rTwo s)).set_reshape _).trans (View.set_slice_whole _ _)
theorem set_sSlot (k : Fin 16) : (sSlot k).view.set = (rSlot k).set :=
  ((sM.view.slice (rSlot k)).set_reshape _).trans (View.set_slice_whole _ _)
theorem set_rcSlot (k : Fin 16) : (rcSlot k).view.set = (rSlot k).set :=
  ((rM.view.slice (rSlot k)).set_reshape _).trans (View.set_slice_whole _ _)
theorem set_xRow (k : Fin 16) : (xRow k).view.set = (rRow k).set :=
  ((xM.view.slice (rRow k)).set_reshape _).trans (View.set_slice_whole _ _)
theorem set_oRow (k : Fin 16) : (oRow k).view.set = (rRow k).set :=
  ((oM.view.slice (rRow k)).set_reshape _).trans (View.set_slice_whole _ _)

end Cert.KernelIdeal.Exchange
end
-- ==== Proof.Protocol.lean ====
/-
The exchange's protocol: who signals whom, what each signal hands over, and what each device owes.

Device `c` and its peer (the other device of its column of the `x` axis) first meet at the barrier: each gives
the other its sixteen receive slots. Then `c` sends chunk after chunk of its own block, narrowed, into the
peer's receive slots; the arrival of chunk `k` hands the peer that slot holding the chunk, and the departure
hands `c` its send slot back. Every cell has the one round 0 with the one duty.
-/
module

public import proofs.«01_k».proof.Proof.Values
public import Idealize.ShloMosaic.Lib.Transfers
public import Idealize.ShloMosaic.Lib.Rounds

@[expose] public section

set_option synthInstance.maxSize 4096

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state -/

abbrev UB : Type := UR sig nD τ
abbrev UU : Type := UR sig nD τ × (UB × Counters)

local notation "𝕄" => MT nD τ sig Unit (Elt F) ℕ UU ℕ

/-- The pipeline's rounds. -/
abbrev EP : Emb (UR sig nD τ) (MT nD τ sig Unit (Elt F) ℕ UU ℕ) := embL
/-- The exchange's rounds. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters. -/
abbrev EC : UEmb Counters (MT nD τ sig Unit (Elt F) ℕ UU ℕ) := countersEmb

abbrev 𝒱₀ : Variants := Variants.none

/-- `wp` of a program of device `c`. -/
abbrev wpc (c : Dev nD) {α : Type} (p : KProg F α) (Q : α → sProp 𝕄) : sProp 𝕄 :=
  wp frame (wpE (defs₀ (F := F)) 𝒱₀ (c : Thread nD τ) none) Set.univ p Q

/-! ## The peer -/

/-- The device with the same `y` and `z` and the other `x`. -/
def peer (c : Dev nD) : Dev nD := ⟨(c.val + 16) % 32, Nat.mod_lt _ (by decide)⟩
theorem peer_peer (c : Dev nD) : peer (peer c) = c := by revert c; decide
def swapDev : Dev nD ≃ Dev nD := ⟨peer, peer, peer_peer, peer_peer⟩

/-! ## The cells -/

/-- The barrier, the departures, the arrivals. -/
abbrev Cell : Type := Unit ⊕ (Fin 16 ⊕ Fin 16)
abbrev barI : Cell := .inl ()
abbrev sndI (k : Fin 16) : Cell := .inr (.inl k)
abbrev rcvI (k : Fin 16) : Cell := .inr (.inr k)

def csem : Cell → SemLoc sig
  | .inl _ => .reg barSem
  | .inr (.inl k) => .dma (sendSem k)
  | .inr (.inr k) => .dma (recvSem k)

/-- Which of the cells a semaphore is. -/
def kind : SemLoc sig → Option Cell
  | .reg _ => some barI
  | .dma q => if h : 5 ≤ q.val ∧ q.val < 21 then some (sndI ⟨q.val - 5, by omega⟩)
      else if h : 21 ≤ q.val ∧ q.val < 37 then some (rcvI ⟨q.val - 21, by omega⟩) else none

theorem kind_csem : ∀ i : Cell, kind (csem i) = some i := by decide
theorem csem_injective : Function.Injective csem := fun i j h =>
  Option.some.inj ((kind_csem i).symm.trans ((congrArg kind h).trans (kind_csem j)))

abbrev cell (c : Dev nD) (i : Cell) : GSem nD τ sig := ((c : Thread nD τ), csem i)

/-- What one chunk's transfer counts for. -/
abbrev N : ℕ := (rcSlot 0).view.dmaCredit
theorem N_pos : 0 < N := View.dmaCredit_pos _ (by decide)

/-! ## The pieces of memory -/

variable (X : Dev nD → S1x4096x2048.Idx → Elt F .f32)

/-- A half of the read buffer, -/
def vPts (c : Dev nD) (s : Fin 2) (f : S2x256x2048.Idx → Elt F .f32) : sProp 𝕄 :=
  (vTwo s).view.loc (c : Thread nD τ) ↦[(vTwo s).view.set]{fullShare} f
/-- of the write buffer, -/
def wPts (c : Dev nD) (s : Fin 2) (f : S2x256x2048.Idx → Elt F .f32) : sProp 𝕄 :=
  (wTwo s).view.loc (c : Thread nD τ) ↦[(wTwo s).view.set]{fullShare} f
/-- a slot of the send buffer, -/
def sPts (c : Dev nD) (k : Fin 16) (f : S16x256x2048.Idx → Elt F .bf16) : sProp 𝕄 :=
  (sSlot k).view.loc (c : Thread nD τ) ↦[(sSlot k).view.set]{fullShare} f
/-- of the receive buffer, -/
def rPts (c : Dev nD) (k : Fin 16) (f : S16x256x2048.Idx → Elt F .bf16) : sProp 𝕄 :=
  (rcSlot k).view.loc (c : Thread nD τ) ↦[(rcSlot k).view.set]{fullShare} f
/-- a chunk of rows of the result. -/
def oPts (c : Dev nD) (k : Fin 16) (f : S1x4096x2048.Idx → Elt F .f32) : sProp 𝕄 :=
  (oRow k).view.loc (c : Thread nD τ) ↦[(oRow k).view.set]{fullShare} f
/-- The share of `x` that goes with a half of the read buffer: -/
def half (s : Fin 2) : PosShare TreeShare := if s = 0 then fullShare.left else fullShare.right
/-- that share of all of `x`, -/
def xPts (c : Dev nD) (s : Fin 2) : sProp 𝕄 :=
  xM.view.loc (c : Thread nD τ) ↦{half s} X c
/-- of a chunk of rows, -/
def xIn (c : Dev nD) (s : Fin 2) (k : Fin 16) : sProp 𝕄 :=
  (xRow k).view.loc (c : Thread nD τ) ↦[(xRow k).view.set]{half s} X c
/-- of the other rows. -/
def xOut (c : Dev nD) (s : Fin 2) (k : Fin 16) : sProp 𝕄 :=
  xM.view.loc (c : Thread nD τ) ↦[Finset.univ \ (xRow k).view.set]{half s} X c

instance sPts_storable (c : Dev nD) (k f) : BI.Storable (upEmb : UEmb _ 𝕄) (sPts (F := F) c k f) := by unfold sPts; infer_instance
instance rPts_storable (c : Dev nD) (k f) : BI.Storable (upEmb : UEmb _ 𝕄) (rPts (F := F) c k f) := by unfold rPts; infer_instance

/-! ## The schedule -/

/-- The peer's barrier signal hands over its receive slots. -/
def barPay (c : Dev nD) : sProp 𝕄 :=
  bigSep Finset.univ fun k : Fin 16 => iprop(∃ f, rPts (F := F) (peer c) k f)
/-- A departure hands back the send slot. -/
def sndPay (c : Dev nD) (k : Fin 16) : sProp 𝕄 := sPts c k (wireC (X c))
/-- An arrival hands over the receive slot, holding the peer's chunk. -/
def rcvPay (c : Dev nD) (k : Fin 16) : sProp 𝕄 := rPts c k (wireC (X (peer c)))

instance barPay_storable (c : Dev nD) : BI.Storable (upEmb : UEmb _ 𝕄) (barPay (F := F) c) := by unfold barPay; infer_instance
instance sndPay_storable (c : Dev nD) (k) : BI.Storable (upEmb : UEmb _ 𝕄) (sndPay (F := F) X c k) := by unfold sndPay; infer_instance
instance rcvPay_storable (c : Dev nD) (k) : BI.Storable (upEmb : UEmb _ 𝕄) (rcvPay (F := F) X c k) := by unfold rcvPay; infer_instance

def amt : Cell → ℕ
  | .inl _ => 1
  | .inr _ => N
def pay (c : Dev nD) : Cell → sProp 𝕄
  | .inl _ => barPay c
  | .inr (.inl k) => sndPay X c k
  | .inr (.inr k) => rcvPay X c k

theorem amt_pos : ∀ i, 0 < amt i
  | .inl _ => Nat.one_pos
  | .inr _ => N_pos
instance pay_storable (c : Dev nD) : ∀ i, BI.Storable (upEmb : UEmb _ 𝕄) (pay (F := F) X c i)
  | .inl _ => barPay_storable c
  | .inr (.inl k) => sndPay_storable X c k
  | .inr (.inr k) => rcvPay_storable X c k

def sched : Rounds.Schedule (GSem nD τ sig) Unit 𝕄 where
  duties g r := if r = 0 ∧ g.1.2 = .tc ∧ (kind g.2).isSome = true then {()} else ∅
  unitless _ := False
  amount g _ _ := ((kind g.2).map amt).getD 1
  payload g _ _ := match kind g.2 with
    | some i => pay X g.1.1 i
    | none => iprop(emp)
  amount_pos g _ _ _ := by
    cases h : kind g.2 with
    | none => exact Nat.one_pos
    | some i => exact amt_pos i

instance sched_storable (g : GSem nD τ sig) (r : ℕ) (d : Unit) : BI.Storable (upEmb : UEmb _ 𝕄) ((sched (F := F) X).payload g r d) := by
  dsimp only [sched]
  split <;> infer_instance

section Sched
variable (c : Dev nD) (i : Cell)

theorem duties_cell : (sched (F := F) X).duties (cell c i) 0 = {()} := by
  dsimp only [sched]; exact if_pos ⟨rfl, rfl, by rw [kind_csem]; rfl⟩
theorem mem_duties : () ∈ (sched (F := F) X).duties (cell c i) 0 := by
  rw [duties_cell]; exact Finset.mem_singleton_self _
theorem duties_later (g : GSem nD τ sig) : ∀ r, 1 ≤ r → (sched (F := F) X).duties g r = ∅ :=
  fun r hr => by dsimp only [sched]; exact if_neg fun h => by omega
theorem amount_cell (u : Unit) : (sched (F := F) X).amount (cell c i) 0 u = amt i := by
  dsimp only [sched]; rw [kind_csem]; rfl
theorem expect_cell : (sched (F := F) X).expect (cell c i) 0 = amt i := by
  unfold Schedule.expect Schedule.amountOf; rw [duties_cell, Finset.sum_singleton, amount_cell]
theorem payload_cell (u : Unit) : (sched (F := F) X).payload (cell c i) 0 u = pay X c i := by
  dsimp only [sched]; rw [kind_csem]
theorem rest_cell : bigSep ((sched (F := F) X).duties (cell c i) 0 \ ∅) (fun u => (sched (F := F) X).payload (cell c i) 0 u) = pay X c i := by
  rw [Finset.sdiff_empty, duties_cell, bigSep_singleton, payload_cell]

end Sched

/-! ## The chunks still to come, and those done -/

def From (n : ℕ) : Finset (Fin 16) := Finset.univ.filter fun k => n ≤ k.val
def Upto (n : ℕ) : Finset (Fin 16) := Finset.univ.filter fun k => k.val < n

theorem from_zero : From 0 = Finset.univ := by decide
theorem from_all : From 16 = ∅ := by decide
theorem upto_zero : Upto 0 = ∅ := by decide
theorem upto_all : Upto 16 = Finset.univ := by decide
theorem from_step : ∀ k : Fin 16, From k.val = insert k (From (k.val + 1)) := by decide
theorem from_not : ∀ k : Fin 16, k ∉ From (k.val + 1) := by decide
theorem upto_step : ∀ k : Fin 16, Upto (k.val + 1) = insert k (Upto k.val) := by decide
theorem upto_not : ∀ k : Fin 16, k ∉ Upto k.val := by decide

theorem bigSep_from (k : Fin 16) (Φ : Fin 16 → sProp 𝕄) : bigSep (From k.val) Φ = iprop(Φ k ∗ bigSep (From (k.val + 1)) Φ) := by
  rw [from_step, bigSep_insert (from_not k)]; rfl
theorem bigSep_upto (k : Fin 16) (Φ : Fin 16 → sProp 𝕄) : bigSep (Upto (k.val + 1)) Φ = iprop(Φ k ∗ bigSep (Upto k.val) Φ) := by
  rw [upto_step, bigSep_insert (upto_not k)]; rfl

/-! ## What a device owes, and the order of the waits -/

/-- The arrivals device `c` has yet to pay for, from chunk `n` on. -/
def owedFrom (c : Dev nD) (n : ℕ) : CellTallies nD τ sig Unit := ∑ k ∈ From n, tallyAt (cell (peer c) (rcvI k)) () N
/-- At the start, also the barrier. -/
def O₀ (c : Dev nD) : CellTallies nD τ sig Unit := owedFrom c 0 + tallyAt (cell (peer c) barI) () 1

theorem owedFrom_step (c : Dev nD) (k : Fin 16) :
    owedFrom c k.val = owedFrom c (k.val + 1) + tallyAt (cell (peer c) (rcvI k)) () N := by
  unfold owedFrom; rw [from_step, Finset.sum_insert (from_not k), add_comm]
theorem owedFrom_all (c : Dev nD) : owedFrom c 16 = 0 := by unfold owedFrom; rw [from_all, Finset.sum_empty]

def L (g : GSem nD τ sig) : Finset Unit := if g.1.2 = .tc then {()} else ∅
/-- The barrier comes before the arrivals, everything else before both. -/
def rank : Option Cell → ℕ
  | some (.inl _) => 1
  | some (.inr (.inr _)) => 2
  | _ => 0
def lv (g : GSem nD τ sig) (_ : Unit) : ℕ := rank (kind g.2)
theorem L_of_ne (g : GSem nD τ sig) (h : g.1.2 ≠ .tc) : L g = ∅ := if_neg h
theorem L_tc (c : Dev nD) (sm : SemLoc sig) : L ((c : Thread nD τ), sm) = {()} := if_pos rfl

theorem owedFrom_pos {c : Dev nD} {n : ℕ} {g : GSem nD τ sig} {u : Unit} (h : 0 < owedFrom c n g u) :
    ∃ k, g = cell (peer c) (rcvI k) := by
  unfold owedFrom at h
  by_contra hn
  refine absurd h (Nat.not_lt.mpr (Nat.le_of_eq ?_))
  rw [Finset.sum_apply, Finsupp.finset_sum_apply]
  refine Finset.sum_eq_zero fun k _ => ?_
  rw [tallyAt_apply, if_neg fun h' => hn ⟨k, h'.1⟩]

theorem O₀_pos {c : Dev nD} {g : GSem nD τ sig} {u : Unit} (h : 0 < O₀ c g u) :
    (∃ k, g = cell (peer c) (rcvI k)) ∨ g = cell (peer c) barI := by
  unfold O₀ at h
  rw [Pi.add_apply, Finsupp.add_apply] at h
  rcases Nat.eq_zero_or_pos (owedFrom c 0 g u) with h0 | h0
  · right
    by_contra hn
    rw [h0, tallyAt_apply, if_neg fun h' => hn h'.1] at h
    exact Nat.lt_irrefl 0 h
  · exact .inl (owedFrom_pos h0)

theorem lv_cell (c : Dev nD) (i : Cell) (u : Unit) : lv (cell c i) u = rank (some i) := by
  unfold lv; rw [kind_csem]

/-- A wait below all of `O` is allowed by the levels. -/
theorem mayWait_of (c : Dev nD) (sm : SemLoc sig) (cut : ℕ) (O : CellTallies nD τ sig Unit) (hs : lv ((c : Thread nD τ), sm) () ≤ cut)
    (hO : ∀ g u, 0 < O g u → ∃ d i, g = cell d i ∧ cut < rank (some i)) :
    (levAts L lv : sProp 𝕄) ⊢ MayWait (c : Thread nD τ) sm () O :=
  MayOwe.of_cut (L := L) (lev := lv) cut (fun p hp => by rw [Finset.mem_singleton.mp hp, L_tc]; exact Finset.mem_singleton_self _)
    (fun g u hg => by obtain ⟨d, i, rfl, -⟩ := hO g u hg; rw [L_tc]; exact Finset.mem_singleton_self _)
    (fun p hp => by rw [Finset.mem_singleton.mp hp]; exact hs)
    (fun g u hg => by obtain ⟨d, i, rfl, h⟩ := hO g u hg; rw [lv_cell]; exact h)

/-- At the barrier only arrivals are owed. -/
theorem mayWait_bar (c : Dev nD) : (levAts L lv : sProp 𝕄) ⊢ MayWait (c : Thread nD τ) (.reg barSem) () (owedFrom c 0) :=
  mayWait_of c _ 1 _ (Nat.le_refl 1) fun g u hg => by
    obtain ⟨k, rfl⟩ := owedFrom_pos hg; exact ⟨_, _, rfl, Nat.lt_succ_self 1⟩

/-- A local copy may be awaited with any arrivals owed. -/
theorem mayWait_dma (c : Dev nD) (q : DmaSem sig) (hq : rank (kind (.dma q)) = 0) (n : ℕ) :
    (levAts L lv : sProp 𝕄) ⊢ MayWait (c : Thread nD τ) (.dma q) () (owedFrom c n) :=
  mayWait_of c _ 0 _ (Nat.le_of_eq hq) fun g u hg => by
    obtain ⟨k, rfl⟩ := owedFrom_pos hg; exact ⟨_, _, rfl, Nat.two_pos⟩

/-- And with the barrier owed besides. -/
theorem mayWait_dma₀ (c : Dev nD) (q : DmaSem sig) (hq : rank (kind (.dma q)) = 0) :
    (levAts L lv : sProp 𝕄) ⊢ MayWait (c : Thread nD τ) (.dma q) () (O₀ c) :=
  mayWait_of c _ 0 _ (Nat.le_of_eq hq) fun g u hg => by
    rcases O₀_pos hg with ⟨k, rfl⟩ | rfl
    · exact ⟨_, _, rfl, Nat.two_pos⟩
    · exact ⟨_, _, rfl, Nat.one_pos⟩

theorem rank_in : ∀ s, rank (kind (.dma (inSem s))) = 0 := by decide
theorem rank_out : ∀ s, rank (kind (.dma (outSem s))) = 0 := by decide

theorem credit_s (k : Fin 16) : (sSlot k).view.dmaCredit = N := rfl
theorem credit_r (k : Fin 16) : (rcSlot k).view.dmaCredit = N := rfl

end Cert.KernelIdeal.Exchange
end
-- ==== Proof.Steps.lean ====
/-
One lemma per step of the exchange, at a symbolic device and chunk: what the step takes and what it leaves.
-/
module

public import proofs.«01_k».proof.Proof.Protocol

@[expose] public section

set_option synthInstance.maxSize 4096

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocal wp_waitLocalO)

variable {F : FTy → Type} [FloatOps F]

local notation "𝕄" => MT nD τ sig Unit (Elt F) ℕ UU ℕ

variable (X : Dev nD → S1x4096x2048.Idx → Elt F .f32)

/-- What a device owes, whatever it has waited for. -/
def owesE (c : Dev nD) (O : CellTallies nD τ sig Unit) : sProp 𝕄 := iprop(∃ W, owes (c : Thread nD τ) O W)

/-! ## What every step may rely on -/

def invs (K : Dev nD × Cell → ℕ) (c : Dev nD) : sProp 𝕄 :=
  bigSep Finset.univ fun i : Cell => cellInv ER (sched X) (K (c, i)) (cell c i)
def begun (c : Dev nD) : sProp 𝕄 := bigSep Finset.univ fun i : Cell => reached ER (cell c i) 0
/-- The two devices' cells are in place and at round 0, and the levels are as assigned. -/
def env (K : Dev nD × Cell → ℕ) (c : Dev nD) : sProp 𝕄 :=
  iprop(invs X K c ∗ invs X K (peer c) ∗ begun c ∗ begun (peer c) ∗ levAts L lv)

instance invs_persistent (K : Dev nD × Cell → ℕ) (c : Dev nD) : BI.Persistent (invs X K c) := by unfold invs; infer_instance
instance begun_persistent (c : Dev nD) : BI.Persistent (begun (F := F) c) := by unfold begun; infer_instance
instance env_persistent (K : Dev nD × Cell → ℕ) (c : Dev nD) : BI.Persistent (env X K c) := by unfold env; infer_instance

theorem invs_at (K : Dev nD × Cell → ℕ) (c : Dev nD) (i : Cell) : invs X K c ⊢ cellInv ER (sched X) (K (c, i)) (cell c i) :=
  bigSep_elim (Finset.mem_univ i)
theorem begun_at (c : Dev nD) (i : Cell) : begun (F := F) c ⊢ reached ER (cell c i) 0 := bigSep_elim (Finset.mem_univ i)

/-! ## Reading a chunk of `x` -/

abbrev Nin : ℕ := (vTwo 0).view.dmaCredit
theorem Nin_pos : 0 < Nin := View.dmaCredit_pos _ (by decide)

/-- A half of the read buffer at rest, with its semaphore and its share of `x`; -/
def vFree (c : Dev nD) (s : Fin 2) : sProp 𝕄 :=
  iprop((∃ f, vPts c s f) ∗ semVal ((c : Thread nD τ), .dma (inSem s)) 0 ∗ xPts X c s)
/-- while chunk `k` is on its way into it; -/
def vBusy (c : Dev nD) (k : Fin 16) : sProp 𝕄 :=
  iprop((∃ fd : S2x256x2048.Idx → Elt F .f32, Flight EC (c : Thread nD τ) (.dma (inSem (par k))) () Nin
      iprop(vPts c (par k) ((vTwo (par k)).view.write (Elt F) fd ((xRow k).view.read (Elt F) (X c)) Finset.univ) ∗ xIn X c (par k) k))
    ∗ xOut X c (par k) k)
/-- when it has arrived. -/
def vFull (c : Dev nD) (k : Fin 16) : sProp 𝕄 :=
  iprop(vPts c (par k) (readC (X c) k) ∗ semVal ((c : Thread nD τ), .dma (inSem (par k))) 0 ∗ xPts X c (par k))

theorem vFull_free (c : Dev nD) (k : Fin 16) : vFull X c k ⊢ vFree X c (par k) := by
  unfold vFull vFree
  iintro ⟨Hv, Hr⟩
  isplitl [Hv]
  · iexists _; iexact Hv
  iexact Hr

theorem xPts_split (c : Dev nD) (s : Fin 2) (k : Fin 16) : xPts X c s ⊣⊢ iprop(xIn X c s k ∗ xOut X c s k) :=
  pointsTo_split_subset (Finset.subset_univ _)

theorem wp_inStart (c : Dev nD) (k : Fin 16) (Kt : PUnit → sProp 𝕄) :
    iprop(vFree X c (par k) ∗ (vBusy X c k -∗ Kt ⟨⟩)) ⊢ wpc c (inStart k) Kt := by
  unfold vFree wpc inStart Prog.lift
  iintro ⟨⟨⟨%f, Hv⟩, Hs, Hx⟩, Hk⟩
  ihave Hx' := ((xPts_split X c (par k) k).1) $$ Hx
  icases Hx' with ⟨Hin, Hout⟩
  unfold vPts xIn
  iapply (wp_dmaLocal EC 𝒱₀ (c : Thread nD τ) none (src := xRow k) (dst := vTwo (par k)) (sm := .dma (inSem (par k))) () Nin rfl Nin_pos (Finset.Subset.refl _)) $$ [Hin Hv Hs]
  · isplitl [Hin]; · iexact Hin
    isplitl [Hv] <;> iassumption
  iintro Hf
  rw [wp_ret]; imodintro
  iapply Hk
  unfold vBusy
  isplitl [Hf]
  · iexists f; unfold vPts xIn; iexact Hf
  iexact Hout

theorem wp_inWait (K : Dev nD × Cell → ℕ) (c : Dev nD) (k : Fin 16) (n : ℕ) (Kt : PUnit → sProp 𝕄) :
    iprop(env X K c ∗ vBusy X c k ∗ owesE c (owedFrom c n) ∗ (vFull X c k ∗ owesE c (owedFrom c n) -∗ Kt ⟨⟩)) ⊢ wpc c (inWait k) Kt := by
  unfold vBusy wpc inWait Prog.lift owesE env
  iintro ⟨⟨-, -, -, -, #Hlev⟩, ⟨⟨%fd, Hf⟩, Hout⟩, ⟨%W, HO⟩, Hk⟩
  iapply (wp_waitLocalO EC 𝒱₀ (c : Thread nD τ) none (srcw := xRow k) (dstw := vTwo (par k)) () (N := Nin) rfl) $$ [Hf HO]
  · isplitl [Hf]; · iexact Hf
    isplitl [HO]; · iexact HO
    iapply (mayWait_dma c _ (rank_in (par k)) n); iexact Hlev
  iintro ⟨⟨Hv, Hin⟩, Hs, HO⟩
  rw [wp_ret]; imodintro
  iapply Hk
  unfold vFull
  isplitr [HO]
  · isplitl [Hv]
    · iapply (Entails.of_eq (show vPts c (par k) _ = vPts c (par k) (readC (X c) k) from pointsTo_congr fun i hi => read_in (X c) k (par k) fd i hi)); iexact Hv
    isplitl [Hs]; · iexact Hs
    iapply (xPts_split X c (par k) k).2
    isplitl [Hin] <;> iassumption
  · iexists _; iexact HO

/-! ## Packing and sending -/

theorem set_vload (s : Fin 2) : vM.view.setOn (rTwo s).toLoadRect.set ⊆ (vTwo s).view.set := by
  rw [set_vTwo]; show (rTwo s).set.map (Function.Embedding.refl _) ⊆ _; rw [Finset.map_refl]
theorem set_wload (s : Fin 2) : wM.view.setOn (rTwo s).toLoadRect.set ⊆ (wTwo s).view.set := by
  rw [set_wTwo]; show (rTwo s).set.map (Function.Embedding.refl _) ⊆ _; rw [Finset.map_refl]
theorem set_sload (k : Fin 16) : sM.view.setOn (rSlot k).toLoadRect.set ⊆ (sSlot k).view.set := by
  rw [set_sSlot]; show (rSlot k).set.map (Function.Embedding.refl _) ⊆ _; rw [Finset.map_refl]
theorem set_rload (k : Fin 16) : rM.view.setOn (rSlot k).toLoadRect.set ⊆ (rcSlot k).view.set := by
  rw [set_rcSlot]; show (rSlot k).set.map (Function.Embedding.refl _) ⊆ _; rw [Finset.map_refl]
theorem set_sstore (k : Fin 16) : (sM.access (rSlot k)).set = (sSlot k).view.set :=
  (View.set_slice_whole _ _).trans (set_sSlot k).symm
theorem set_wstore (s : Fin 2) : (wM.access (rTwo s)).set = (wTwo s).view.set :=
  (View.set_slice_whole _ _).trans (set_wTwo s).symm

theorem sub_sstore (k : Fin 16) : (sM.access (rSlot k)).setOn Finset.univ ⊆ (sSlot k).view.set := by
  rw [View.setOn_univ, set_sstore]
theorem sub_wstore (s : Fin 2) : (wM.access (rTwo s)).setOn Finset.univ ⊆ (wTwo s).view.set := by
  rw [View.setOn_univ, set_wstore]

theorem sPts_packed (c : Dev nD) (k : Fin 16) (f : S16x256x2048.Idx → Elt F .bf16) :
    sPts c k ((sM.access (rSlot k)).write (Elt F) f (narrow (vM.view.readAt (Elt F) (rTwo (par k)).toLoadRect (readC (X c) k))) Finset.univ)
      = sPts c k (wireC (X c)) := by
  unfold sPts
  exact pointsTo_congr fun i hi => packed (X c) k (par k) f i (by rw [set_sstore]; exact hi)
theorem wPts_unpacked (c d : Dev nD) (k : Fin 16) (f : S2x256x2048.Idx → Elt F .f32) :
    wPts c (par k) ((wM.access (rTwo (par k))).write (Elt F) f (widen (rM.view.readAt (Elt F) (rSlot k).toLoadRect (wireC (X d)))) Finset.univ)
      = wPts c (par k) (writeC (X d) k) := by
  unfold wPts
  exact pointsTo_congr fun i hi => unpacked (X d) k (par k) f i (by rw [set_wstore]; exact hi)
theorem rPts_crossed (c d : Dev nD) (k : Fin 16) (f : S16x256x2048.Idx → Elt F .bf16) :
    rPts d k ((rcSlot k).view.write (Elt F) f ((sSlot k).view.read (Elt F) (wireC (X c))) Finset.univ) = rPts d k (wireC (X c)) := by
  unfold rPts
  exact pointsTo_congr fun i hi => crossed (X c) k f i hi

theorem wp_pack (c : Dev nD) (k : Fin 16) (Kt : PUnit → sProp 𝕄) :
    iprop(vPts c (par k) (readC (X c) k) ∗ (∃ f, sPts c k f)
        ∗ (vPts c (par k) (readC (X c) k) ∗ sPts c k (wireC (X c)) -∗ Kt ⟨⟩)) ⊢ wpc c (pack k) Kt := by
  unfold wpc pack
  simp only [Prog.lift, Prog.bind_op, Prog.bind_ret]
  iintro ⟨Hv, ⟨%f, Hs⟩, Hk⟩
  unfold vPts
  iapply (wp_load 𝒱₀ (c : Thread nD τ) none Set.univ (m := vM) (set_vload (par k))) $$ Hv; iintro Hv
  unfold sPts
  iapply (wp_load 𝒱₀ (c : Thread nD τ) none Set.univ (m := sM) (set_sload k)) $$ Hs; iintro Hs
  iapply (wp_store 𝒱₀ (c : Thread nD τ) none Set.univ (m := sM) (r := rSlot k) (Mk := Finset.univ) (sub_sstore k)) $$ Hs; iintro Hs
  rw [wp_ret]; imodintro
  iapply Hk
  isplitl [Hv]; · iexact Hv
  have e := Entails.of_eq (sPts_packed X c k f)
  unfold sPts at e
  iapply e; iexact Hs

theorem snd_pay (c : Dev nD) (k : Fin 16) :
    sPts c k (wireC (X c)) ⊢ (sched X).payload (cell c (sndI k)) 0 () := by
  rw [payload_cell]; exact BI.Entails.refl _
theorem rcv_pay (c : Dev nD) (k : Fin 16) (f : S16x256x2048.Idx → Elt F .bf16) :
    rPts (peer c) k ((rcSlot k).view.write (Elt F) f ((sSlot k).view.read (Elt F) (wireC (X c))) Finset.univ)
      ⊢ (sched X).payload (cell (peer c) (rcvI k)) 0 () := by
  rw [payload_cell, rPts_crossed]
  show _ ⊢ rPts (peer c) k (wireC (X (peer (peer c))))
  rw [peer_peer]
theorem amount_k (k : Fin 16) : (rcSlot k).view.amount (csem (rcvI k)) = N := rfl

theorem wp_push (K : Dev nD × Cell → ℕ) (c : Dev nD) (k : Fin 16) (Kt : PUnit → sProp 𝕄) :
    iprop(env X K c ∗ sPts c k (wireC (X c)) ∗ (∃ f, rPts (peer c) k f) ∗ owesE c (owedFrom c k.val)
        ∗ dutyTok ER (cell c (sndI k)) 0 () ∗ dutyTok ER (cell (peer c) (rcvI k)) 0 ()
        ∗ (cred (tallyAt (cell c (sndI k)) () N) ∗ owesE c (owedFrom c (k.val + 1)) -∗ Kt ⟨⟩)) ⊢ wpc c (push (peer c) k) Kt := by
  unfold wpc push Prog.lift env owesE
  iintro ⟨⟨#Hi, #HiP, #Hb, #HbP, -⟩, Hs, ⟨%fn, Hr⟩, ⟨%W, HO⟩, Hts, Htr, Hk⟩
  ihave #Hi1 := (invs_at X K c (sndI k)) $$ Hi
  ihave #Hi2 := (invs_at X K (peer c) (rcvI k)) $$ HiP
  ihave #Hb1 := (begun_at c (sndI k)) $$ Hb
  ihave #Hb2 := (begun_at (peer c) (rcvI k)) $$ HbP
  iapply (Rounds.wp_send_pointsTo 𝒱₀ ER (sched X) (c : Thread nD τ) none (c' := (peer c : Thread nD τ)) (src := sSlot k) (dst := rcSlot k)
    (fs := wireC (X c)) (fd := fn) (q := fullShare) (κ₁ := K (c, sndI k)) (κ₂ := K (peer c, rcvI k))
    (r₁ := 0) (r₂ := 0) (d₁ := ()) (d₂ := ()) (sS := csem (sndI k)) (sem := csem (rcvI k))
    (mem_duties X c (sndI k)) (mem_duties X (peer c) (rcvI k)) () () N (amount_k k) (amount_cell X c (sndI k) ()) (amount_cell X (peer c) (rcvI k) ())
    (owedFrom c (k.val + 1)) (owedFrom_step c k) (W := W) (snd_pay X c k) (rcv_pay X c k fn)) $$ [Hs Hr HO Hts Htr]
  · isplitr; · iexact Hi1
    isplitr; · iexact Hi2
    isplitl [Hs]; · unfold sPts; iexact Hs
    isplitl [Hr]; · unfold rPts; iexact Hr
    isplitl [HO]; · iexact HO
    isplitl [Hts]; · iexact Hts
    isplitr; · iexact Hb1
    isplitl [Htr]; · iexact Htr
    iexact Hb2
  iintro ⟨Hc, HO⟩
  rw [wp_ret]; imodintro
  iapply Hk
  isplitl [Hc]; · iexact Hc
  iexists W; iexact HO

/-! ## The rounds' waits -/

/-- Awaiting a cell's one round: its payload, and the cell closed at zero. -/
theorem wp_round (K : Dev nD × Cell → ℕ) (c : Dev nD) (i : Cell) (O : CellTallies nD τ sig Unit)
    (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (csem i) (amt i) Kt)
    (hmay : (levAts L lv : sProp 𝕄) ⊢ MayWait (c : Thread nD τ) (csem i) () O) (Kt : PUnit → sProp 𝕄) :
    iprop(env X K c ∗ cred (tallyAt (cell c i) () (amt i)) ∗ atPos ER (cell c i) 0 ∅ 0 ∗ owesE c O
        ∗ (pay X c i ∗ semVal (cell c i) 0 ∗ owesE c O -∗ Kt ⟨⟩)) ⊢ wpc c (Prog.lift w) Kt := by
  unfold wpc Prog.lift env owesE
  iintro ⟨⟨#Hi, -, -, -, #Hlev⟩, Hc, Ha, ⟨%W, HO⟩, Hk⟩
  ihave #Hinv := (invs_at X K c i) $$ Hi
  iapply (Rounds.wp_wait_rest_token 𝒱₀ ER (sched X) (c : Thread nD τ) none (κ := K (c, i)) hw (Set.mem_univ _) () (O := O) (W := W)
    (R := 0) (m := 0) (T := ∅) (by rw [expect_cell, Nat.zero_add])) $$ [Hc HO Ha]
  · isplitr; · iexact Hinv
    isplitl [Hc]; · iexact Hc
    isplitl [HO]; · iexact HO
    isplitr; · iapply hmay; iexact Hlev
    iexact Ha
  iintro ⟨HO, Ha, -, Hpay⟩
  imod (Rounds.cell_close ER (sched X) (Set.mem_univ (K (c, i))) (fun h => h) (R := 0 + 1) (duties_later X (cell c i))) $$ [Ha] with Hz
  · isplitr; · iexact Hinv
    iexact Ha
  rw [wp_ret]; imodintro
  iapply Hk
  isplitl [Hpay]
  · iapply (Entails.of_eq (rest_cell X c i)); iexact Hpay
  isplitl [Hz]; · iexact Hz
  iexists _; iexact HO

theorem mayWait_none (c : Dev nD) (sm : SemLoc sig) : (levAts L lv : sProp 𝕄) ⊢ MayWait (c : Thread nD τ) sm () 0 := by
  rw [MayWait_zero]; iintro -; iempintro

theorem wp_pull (K : Dev nD × Cell → ℕ) (c : Dev nD) (k : Fin 16) (Kt : PUnit → sProp 𝕄) :
    iprop(env X K c ∗ cred (tallyAt (cell c (rcvI k)) () N) ∗ atPos ER (cell c (rcvI k)) 0 ∅ 0 ∗ owesE c 0
        ∗ (rPts c k (wireC (X (peer c))) ∗ semVal (cell c (rcvI k)) 0 ∗ owesE c 0 -∗ Kt ⟨⟩)) ⊢ wpc c (pull k) Kt := by
  unfold pull
  exact wp_round X K c (rcvI k) 0 _ (fun Kt' => wpE_waitDma2_eq 𝒱₀ (c : Thread nD τ) none Set.univ (src := sSlot k) (dst := rcSlot k) Kt') (mayWait_none c _) Kt

theorem wp_sent (K : Dev nD × Cell → ℕ) (c : Dev nD) (k : Fin 16) (Kt : PUnit → sProp 𝕄) :
    iprop(env X K c ∗ cred (tallyAt (cell c (sndI k)) () N) ∗ atPos ER (cell c (sndI k)) 0 ∅ 0 ∗ owesE c 0
        ∗ (sPts c k (wireC (X c)) ∗ semVal (cell c (sndI k)) 0 ∗ owesE c 0 -∗ Kt ⟨⟩)) ⊢ wpc c (sent k) Kt := by
  unfold sent
  exact wp_round X K c (sndI k) 0 _ (fun Kt' => wpE_waitDma2_eq 𝒱₀ (c : Thread nD τ) none Set.univ (src := rcSlot k) (dst := sSlot k) Kt') (mayWait_none c _) Kt

/-! ## Unpacking and writing out -/

theorem wp_unpack (c : Dev nD) (k : Fin 16) (Kt : PUnit → sProp 𝕄) :
    iprop(rPts c k (wireC (X (peer c))) ∗ (∃ f, wPts c (par k) f)
        ∗ (rPts c k (wireC (X (peer c))) ∗ wPts c (par k) (writeC (X (peer c)) k) -∗ Kt ⟨⟩)) ⊢ wpc c (unpack k) Kt := by
  unfold wpc unpack
  simp only [Prog.lift, Prog.bind_op, Prog.bind_ret]
  iintro ⟨Hr, ⟨%f, Hw⟩, Hk⟩
  unfold rPts
  iapply (wp_load 𝒱₀ (c : Thread nD τ) none Set.univ (m := rM) (set_rload k)) $$ Hr; iintro Hr
  unfold wPts
  iapply (wp_load 𝒱₀ (c : Thread nD τ) none Set.univ (m := wM) (set_wload (par k))) $$ Hw; iintro Hw
  iapply (wp_store 𝒱₀ (c : Thread nD τ) none Set.univ (m := wM) (r := rTwo (par k)) (Mk := Finset.univ) (sub_wstore (par k))) $$ Hw; iintro Hw
  rw [wp_ret]; imodintro
  iapply Hk
  isplitl [Hr]; · iexact Hr
  have e := Entails.of_eq (wPts_unpacked X c (peer c) k f)
  unfold wPts at e
  iapply e; iexact Hw

abbrev Nout : ℕ := (oRow 0).view.dmaCredit
theorem Nout_pos : 0 < Nout := View.dmaCredit_pos _ (by decide)

/-- A half of the write buffer at rest, with its semaphore; -/
def wFree (c : Dev nD) (s : Fin 2) : sProp 𝕄 :=
  iprop((∃ f, wPts (F := F) c s f) ∗ semVal ((c : Thread nD τ), .dma (outSem s)) 0)
/-- while chunk `k` is on its way out of it. -/
def wBusy (c : Dev nD) (k : Fin 16) : sProp 𝕄 :=
  iprop(∃ fd : S1x4096x2048.Idx → Elt F .f32, Flight EC (c : Thread nD τ) (.dma (outSem (par k))) () Nout
      iprop(oPts c k ((oRow k).view.write (Elt F) fd ((wTwo (par k)).view.read (Elt F) (writeC (X (peer c)) k)) Finset.univ)
        ∗ wPts c (par k) (writeC (X (peer c)) k)))

theorem wp_outStart (c : Dev nD) (k : Fin 16) (Kt : PUnit → sProp 𝕄) :
    iprop(wPts c (par k) (writeC (X (peer c)) k) ∗ semVal ((c : Thread nD τ), .dma (outSem (par k))) 0 ∗ (∃ f, oPts c k f)
        ∗ (wBusy X c k -∗ Kt ⟨⟩)) ⊢ wpc c (outStart k) Kt := by
  unfold wpc outStart Prog.lift
  iintro ⟨Hw, Hs, ⟨%f, Ho⟩, Hk⟩
  unfold wPts oPts
  iapply (wp_dmaLocal EC 𝒱₀ (c : Thread nD τ) none (src := wTwo (par k)) (dst := oRow k) (sm := .dma (outSem (par k))) () Nout rfl Nout_pos (Finset.Subset.refl _)) $$ [Hw Ho Hs]
  · isplitl [Hw]; · iexact Hw
    isplitl [Ho] <;> iassumption
  iintro Hf
  rw [wp_ret]; imodintro
  iapply Hk
  unfold wBusy
  iexists f; unfold wPts oPts; iexact Hf

theorem wp_outWait (c : Dev nD) (k : Fin 16) (Kt : PUnit → sProp 𝕄) :
    iprop(wBusy X c k ∗ owesE c 0
        ∗ (wFree c (par k) ∗ oPts c k (resultC (X (peer c))) ∗ owesE c 0 -∗ Kt ⟨⟩)) ⊢ wpc c (outWait k) Kt := by
  unfold wBusy wpc outWait Prog.lift owesE
  iintro ⟨⟨%fd, Hf⟩, ⟨%W, HO⟩, Hk⟩
  iapply (wp_waitLocal EC 𝒱₀ (c : Thread nD τ) none (srcw := wTwo (par k)) (dstw := oRow k) () (N := Nout) rfl) $$ [Hf HO]
  · isplitl [Hf] <;> iassumption
  iintro ⟨⟨Ho, Hw⟩, Hs, HO⟩
  rw [wp_ret]; imodintro
  iapply Hk
  unfold wFree
  isplitl [Hw Hs]
  · isplitl [Hw]
    · iexists _; iexact Hw
    iexact Hs
  isplitl [Ho]
  · iapply (Entails.of_eq (show oPts c k _ = oPts c k (resultC (X (peer c))) from pointsTo_congr fun i hi => read_out (X (peer c)) k (par k) fd i hi)); iexact Ho
  iexists _; iexact HO

end Cert.KernelIdeal.Exchange
end
-- ==== Proof.Loops.lean ====
/-
The exchange's three loops over the sixteen chunks, and the exchange they make up.
-/
module

public import proofs.«01_k».proof.Proof.Steps

@[expose] public section

set_option synthInstance.maxSize 4096

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1x4096x2048.Idx → Elt F .f32)

/-! ## A loop -/

/-- A loop whose step takes `I k` to `I (k + 1)` takes `I 0` to `I 16`. -/
theorem wp_steps (c : Dev nD) (I : ℕ → sProp 𝕄) (f : Fin 16 → KProg F Unit)
    (h : ∀ (k : Fin 16) (Kt : PUnit → sProp 𝕄), iprop(I k.val ∗ (I (k.val + 1) -∗ Kt ⟨⟩)) ⊢ wpc c (f k) Kt) (Kt : PUnit → sProp 𝕄) :
    ∀ (n : ℕ) (hn : n ≤ 16), iprop(I (16 - n) ∗ (I 16 -∗ Kt ⟨⟩)) ⊢ wpc c (steps f n hn) Kt
  | 0, hn => by
    unfold steps wpc
    rw [Prog.pure_eq_ret, wp_ret]
    iintro ⟨HI, Hk⟩
    imodintro
    iapply Hk; iexact HI
  | n + 1, hn => by
    unfold steps wpc
    rw [wp_bind]
    have e : 16 - (n + 1) = 15 - n := by omega
    have e' : 15 - n + 1 = 16 - n := by omega
    rw [e]
    iintro ⟨HI, Hk⟩
    have hk : 15 - n < 16 := by omega
    iapply (h ⟨15 - n, hk⟩)
    isplitl [HI]; · iexact HI
    iintro HI
    iapply (wp_steps c I f h Kt n (Nat.le_of_succ_le hn))
    isplitl [HI]; · rw [← e']; iexact HI
    iexact Hk

theorem wp_all (c : Dev nD) (I : ℕ → sProp 𝕄) (f : Fin 16 → KProg F Unit)
    (h : ∀ (k : Fin 16) (Kt : PUnit → sProp 𝕄), iprop(I k.val ∗ (I (k.val + 1) -∗ Kt ⟨⟩)) ⊢ wpc c (f k) Kt) (Kt : PUnit → sProp 𝕄) :
    iprop(I 0 ∗ (I 16 -∗ Kt ⟨⟩)) ⊢ wpc c (all f) Kt :=
  wp_steps c I f h Kt 16 (Nat.le_refl _)

/-- The half of a two-slot buffer the step `n` uses. -/
def two (n : ℕ) : Fin 2 := ⟨n % 2, Nat.mod_lt _ Nat.two_pos⟩
theorem two_step (n : ℕ) : two (n + 1 + 1) = two n := Fin.ext (Nat.add_mod_right n 2)

/-! ## The sending loop -/

/-- The half of the read buffer chunk `n` uses, from the start of its copy on. -/
def inOne (c : Dev nD) (n : ℕ) : sProp 𝕄 := if h : n < 16 then vBusy X c ⟨n, h⟩ else vFree X c (two n)

theorem inOne_at (c : Dev nD) (k : Fin 16) : inOne X c k.val = vBusy X c k := dif_pos k.isLt

theorem wp_inNext (c : Dev nD) (k : Fin 16) (Kt : PUnit → sProp 𝕄) :
    iprop(vFree X c (two (k.val + 1)) ∗ (inOne X c (k.val + 1) -∗ Kt ⟨⟩)) ⊢ wpc c (inNext k) Kt := by
  unfold inNext inOne
  by_cases h : k.val + 1 < 16
  · rw [dif_pos h, dif_pos h]
    exact wp_inStart X c ⟨k.val + 1, h⟩ Kt
  · rw [dif_neg h, dif_neg h]
    unfold wpc
    rw [Prog.pure_eq_ret, wp_ret]
    iintro ⟨HI, Hk⟩
    imodintro
    iapply Hk; iexact HI

/-- What the send of one chunk uses up. -/
def sendRes (c : Dev nD) (k : Fin 16) : sProp 𝕄 :=
  iprop((∃ f, sPts (F := F) c k f) ∗ (∃ f, rPts (F := F) (peer c) k f)
    ∗ dutyTok ER (cell c (sndI k)) 0 () ∗ dutyTok ER (cell (peer c) (rcvI k)) 0 ())

def sendInv (c : Dev nD) (n : ℕ) : sProp 𝕄 :=
  iprop(inOne X c n ∗ vFree X c (two (n + 1)) ∗ bigSep (From n) (sendRes c)
    ∗ bigSep (Upto n) (fun k => cred (tallyAt (cell c (sndI k)) () N)) ∗ owesE c (owedFrom c n))

theorem wp_sendStep (K : Dev nD × Cell → ℕ) (c : Dev nD) (k : Fin 16) (Kt : PUnit → sProp 𝕄) :
    iprop((env X K c ∗ sendInv X c k.val) ∗ (env X K c ∗ sendInv X c (k.val + 1) -∗ Kt ⟨⟩)) ⊢ wpc c (sendStep (peer c) k) Kt := by
  unfold sendInv sendStep wpc
  rw [inOne_at, bigSep_from k (sendRes c), bigSep_upto k]
  rw [wp_bind]
  iintro ⟨⟨#Henv, Hin, Hfree, ⟨Hres, Hrest⟩, Hcr, HO⟩, Hk⟩
  iapply (wp_inNext X c k)
  isplitl [Hfree]; · iexact Hfree
  iintro Hnext
  rw [wp_bind]
  iapply (wp_inWait X K c k k.val)
  isplitr; · iexact Henv
  isplitl [Hin]; · iexact Hin
  isplitl [HO]; · iexact HO
  iintro ⟨Hfull, HO⟩
  unfold vFull sendRes
  icases Hfull with ⟨Hv, Hfull⟩
  icases Hres with ⟨Hs, Hr, Hts, Htr⟩
  rw [wp_bind]
  iapply (wp_pack X c k)
  isplitl [Hv]; · iexact Hv
  isplitl [Hs]; · iexact Hs
  iintro ⟨Hv, Hs⟩
  iapply (wp_push X K c k)
  isplitr; · iexact Henv
  isplitl [Hs]; · iexact Hs
  isplitl [Hr]; · iexact Hr
  isplitl [HO]; · iexact HO
  isplitl [Hts]; · iexact Hts
  isplitl [Htr]; · iexact Htr
  iintro ⟨Hc, HO⟩
  iapply Hk
  isplitr; · iexact Henv
  isplitl [Hnext]; · iexact Hnext
  isplitl [Hv Hfull]
  · rw [two_step]
    iapply (vFull_free X c k)
    unfold vFull
    isplitl [Hv] <;> iassumption
  isplitl [Hrest]; · iexact Hrest
  isplitl [Hc Hcr]
  · isplitl [Hc] <;> iassumption
  iexact HO

theorem wp_sendAll (K : Dev nD × Cell → ℕ) (c : Dev nD) (Kt : PUnit → sProp 𝕄) :
    iprop((env X K c ∗ sendInv X c 0) ∗ (env X K c ∗ sendInv X c 16 -∗ Kt ⟨⟩)) ⊢ wpc c (all (sendStep (peer c))) Kt :=
  wp_all c (fun n => iprop(env X K c ∗ sendInv X c n)) _ (fun k Kt => wp_sendStep X K c k Kt) Kt

/-! ## The receiving loop -/

/-- The half of the write buffer step `n` uses, before it. -/
def outOne (c : Dev nD) (n : ℕ) : sProp 𝕄 :=
  if h : 2 ≤ n ∧ n < 18 then wBusy X c ⟨n - 2, by omega⟩ else wFree c (two n)

theorem outOne_next (c : Dev nD) (k : Fin 16) : outOne X c (k.val + 1 + 1) = wBusy X c k := by
  unfold outOne
  rw [dif_pos ⟨by omega, by omega⟩]; rfl

def outDone (c : Dev nD) (k : Fin 16) : sProp 𝕄 := oPts c k (resultC (X (peer c)))

/-- Awaiting the write of chunk `j`, the next to come to rest. -/
theorem wp_outDone (c : Dev nD) (j : Fin 16) (Kt : PUnit → sProp 𝕄) :
    iprop(outOne X c (j.val + 1 + 1) ∗ bigSep (Upto j.val) (outDone X c) ∗ owesE c 0
        ∗ (wFree c (par j) ∗ bigSep (Upto (j.val + 1)) (outDone X c) ∗ owesE c 0 -∗ Kt ⟨⟩)) ⊢ wpc c (outWait j) Kt := by
  rw [outOne_next, bigSep_upto j]
  iintro ⟨Hw, Hd, HO, Hk⟩
  iapply (wp_outWait X c j)
  isplitl [Hw]; · iexact Hw
  isplitl [HO]; · iexact HO
  iintro ⟨Hw, Ho, HO⟩
  iapply Hk
  isplitl [Hw]; · iexact Hw
  isplitl [Ho Hd]
  · isplitl [Ho]; · unfold outDone; iexact Ho
    iexact Hd
  iexact HO

theorem wp_outPrev (c : Dev nD) (k : Fin 16) (Kt : PUnit → sProp 𝕄) :
    iprop(outOne X c k.val ∗ bigSep (Upto (k.val - 2)) (outDone X c) ∗ owesE c 0
        ∗ (wFree c (par k) ∗ bigSep (Upto (k.val - 1)) (outDone X c) ∗ owesE c 0 -∗ Kt ⟨⟩)) ⊢ wpc c (outPrev k) Kt := by
  unfold outPrev
  by_cases h : 2 ≤ k.val
  · rw [dif_pos h]
    have e := wp_outDone X c ⟨k.val - 2, by omega⟩ Kt
    have e1 : k.val - 2 + 1 + 1 = k.val := by omega
    have e2 : k.val - 2 + 1 = k.val - 1 := by omega
    have e3 : par ⟨k.val - 2, by omega⟩ = par k := Fin.ext (by show (k.val - 2) % 2 = k.val % 2; omega)
    dsimp only at e
    rw [e1, e2, e3] at e
    exact e
  · rw [dif_neg h]
    have e1 : k.val - 2 = k.val - 1 := by omega
    have e2 : outOne X c k.val = wFree c (par k) := by
      unfold outOne; rw [dif_neg fun h' => h h'.1]; rfl
    rw [e1, e2]
    unfold wpc
    rw [Prog.pure_eq_ret, wp_ret]
    iintro ⟨Hw, Hd, HO, Hk⟩
    imodintro
    iapply Hk
    isplitl [Hw]; · iexact Hw
    isplitl [Hd] <;> iassumption

/-- What one arrival's wait uses, and what it leaves. -/
def recvRes (c : Dev nD) (k : Fin 16) : sProp 𝕄 :=
  iprop(cred (tallyAt (cell c (rcvI k)) () N) ∗ atPos ER (cell c (rcvI k)) 0 ∅ 0)
def recvDone (c : Dev nD) (k : Fin 16) : sProp 𝕄 :=
  iprop(rPts c k (wireC (X (peer c))) ∗ semVal (cell c (rcvI k)) 0)

def recvInv (c : Dev nD) (n : ℕ) : sProp 𝕄 :=
  iprop(bigSep (From n) (recvRes c) ∗ bigSep (Upto n) (recvDone X c) ∗ outOne X c n ∗ outOne X c (n + 1)
    ∗ bigSep (From n) (fun k => iprop(∃ f, oPts (F := F) c k f)) ∗ bigSep (Upto (n - 2)) (outDone X c) ∗ owesE c 0)

theorem wp_recvStep (K : Dev nD × Cell → ℕ) (c : Dev nD) (k : Fin 16) (Kt : PUnit → sProp 𝕄) :
    iprop((env X K c ∗ recvInv X c k.val) ∗ (env X K c ∗ recvInv X c (k.val + 1) -∗ Kt ⟨⟩)) ⊢ wpc c (recvStep k) Kt := by
  unfold recvInv recvStep wpc
  rw [bigSep_from k (recvRes c), bigSep_upto k (recvDone X c), bigSep_from k (fun k => iprop(∃ f, oPts (F := F) c k f)), outOne_next]
  have e1 : k.val + 1 - 2 = k.val - 1 := by omega
  rw [e1, wp_bind]
  iintro ⟨⟨#Henv, ⟨Hres, Hrest⟩, Hdone, Hw0, Hw1, ⟨Ho, Horest⟩, Hodone, HO⟩, Hk⟩
  unfold recvRes
  icases Hres with ⟨Hc, Hat⟩
  iapply (wp_pull X K c k)
  isplitr; · iexact Henv
  isplitl [Hc]; · iexact Hc
  isplitl [Hat]; · iexact Hat
  isplitl [HO]; · iexact HO
  iintro ⟨Hr, Hz, HO⟩
  rw [wp_bind]
  iapply (wp_outPrev X c k)
  isplitl [Hw0]; · iexact Hw0
  isplitl [Hodone]; · iexact Hodone
  isplitl [HO]; · iexact HO
  unfold wFree
  iintro ⟨⟨Hw, Hws⟩, Hodone, HO⟩
  rw [wp_bind]
  iapply (wp_unpack X c k)
  isplitl [Hr]; · iexact Hr
  isplitl [Hw]; · iexact Hw
  iintro ⟨Hr, Hw⟩
  iapply (wp_outStart X c k)
  isplitl [Hw]; · iexact Hw
  isplitl [Hws]; · iexact Hws
  isplitl [Ho]; · iexact Ho
  iintro Hbusy
  iapply Hk
  isplitr; · iexact Henv
  isplitl [Hrest]; · iexact Hrest
  isplitl [Hr Hz Hdone]
  · isplitl [Hr Hz]
    · unfold recvDone
      isplitl [Hr] <;> iassumption
    iexact Hdone
  isplitl [Hw1]; · iexact Hw1
  isplitl [Hbusy]; · iexact Hbusy
  isplitl [Horest]; · iexact Horest
  isplitl [Hodone] <;> iassumption

theorem wp_recvAll (K : Dev nD × Cell → ℕ) (c : Dev nD) (Kt : PUnit → sProp 𝕄) :
    iprop((env X K c ∗ recvInv X c 0) ∗ (env X K c ∗ recvInv X c 16 -∗ Kt ⟨⟩)) ⊢ wpc c (all recvStep) Kt :=
  wp_all c (fun n => iprop(env X K c ∗ recvInv X c n)) _ (fun k Kt => wp_recvStep X K c k Kt) Kt

/-! ## The last loop -/

def sentRes (c : Dev nD) (k : Fin 16) : sProp 𝕄 :=
  iprop(cred (tallyAt (cell c (sndI k)) () N) ∗ atPos ER (cell c (sndI k)) 0 ∅ 0)
def sentDone (c : Dev nD) (k : Fin 16) : sProp 𝕄 :=
  iprop(sPts c k (wireC (X c)) ∗ semVal (cell c (sndI k)) 0)

def sentInv (c : Dev nD) (n : ℕ) : sProp 𝕄 :=
  iprop(bigSep (From n) (sentRes c) ∗ bigSep (Upto n) (sentDone X c) ∗ owesE c 0)

theorem wp_sentStep (K : Dev nD × Cell → ℕ) (c : Dev nD) (k : Fin 16) (Kt : PUnit → sProp 𝕄) :
    iprop((env X K c ∗ sentInv X c k.val) ∗ (env X K c ∗ sentInv X c (k.val + 1) -∗ Kt ⟨⟩)) ⊢ wpc c (sent k) Kt := by
  unfold sentInv
  rw [bigSep_from k (sentRes c), bigSep_upto k (sentDone X c)]
  iintro ⟨⟨#Henv, ⟨Hres, Hrest⟩, Hdone, HO⟩, Hk⟩
  unfold sentRes
  icases Hres with ⟨Hc, Hat⟩
  iapply (wp_sent X K c k)
  isplitr; · iexact Henv
  isplitl [Hc]; · iexact Hc
  isplitl [Hat]; · iexact Hat
  isplitl [HO]; · iexact HO
  iintro ⟨Hs, Hz, HO⟩
  iapply Hk
  isplitr; · iexact Henv
  isplitl [Hrest]; · iexact Hrest
  isplitl [Hs Hz Hdone]
  · isplitl [Hs Hz]
    · unfold sentDone
      isplitl [Hs] <;> iassumption
    iexact Hdone
  iexact HO

theorem wp_sentAll (K : Dev nD × Cell → ℕ) (c : Dev nD) (Kt : PUnit → sProp 𝕄) :
    iprop((env X K c ∗ sentInv X c 0) ∗ (env X K c ∗ sentInv X c 16 -∗ Kt ⟨⟩)) ⊢ wpc c (all sent) Kt :=
  wp_all c (fun n => iprop(env X K c ∗ sentInv X c n)) _ (fun k Kt => wp_sentStep X K c k Kt) Kt

/-! ## The barrier -/

theorem wp_barSignal (K : Dev nD × Cell → ℕ) (c : Dev nD) (Kt : PUnit → sProp 𝕄) :
    iprop(env X K c ∗ owesE c (O₀ c) ∗ dutyTok ER (cell (peer c) barI) 0 () ∗ (bigSep Finset.univ fun k : Fin 16 => iprop(∃ f, rPts (F := F) c k f))
        ∗ (owesE c (owedFrom c 0) -∗ Kt ⟨⟩)) ⊢ wpc c (semSignalWord (peer c) barSem 1#32) Kt := by
  unfold wpc semSignalWord env owesE
  simp only [Prog.lift, Prog.bind_op, Prog.bind_ret, Prog.pure_eq_ret]
  iintro ⟨⟨-, #HiP, -, #HbP, -⟩, ⟨%W, HO⟩, Ht, Hr, Hk⟩
  ihave #Hi2 := (invs_at X K (peer c) barI) $$ HiP
  ihave #Hb2 := (begun_at (peer c) barI) $$ HbP
  iapply (Rounds.wp_signal 𝒱₀ ER (sched X) (c : Thread nD τ) none (dst := (peer c : Thread nD τ)) (sem := barSem) (κ := K (peer c, barI))
    (r := 0) (d := ()) (k' := 1) (mem_duties X (peer c) barI) (amount_cell X (peer c) barI ()) () (owedFrom c 0) rfl) $$ [HO Ht Hr]
  · isplitr; · iexact Hi2
    isplitl [HO]; · iexact HO
    isplitl [Ht]; · iexact Ht
    isplitl [Hr]
    · have e : (sched X).payload ((peer c : Thread nD τ), SemLoc.reg barSem) 0 () = pay X (peer c) barI := payload_cell X (peer c) barI ()
      iapply (Entails.of_eq e.symm)
      unfold pay barPay
      rw [peer_peer]; iexact Hr
    iexact Hb2
  iintro HO
  rw [wp_ret]; imodintro
  iapply Hk
  iexists W; iexact HO

theorem wp_barWait (K : Dev nD × Cell → ℕ) (c : Dev nD) (Kt : PUnit → sProp 𝕄) :
    iprop(env X K c ∗ cred (tallyAt (cell c barI) () 1) ∗ atPos ER (cell c barI) 0 ∅ 0 ∗ owesE c (owedFrom c 0)
        ∗ (barPay c ∗ semVal (cell c barI) 0 ∗ owesE c (owedFrom c 0) -∗ Kt ⟨⟩)) ⊢ wpc c (semWaitWord barSem 1#32) Kt := by
  unfold semWaitWord
  exact wp_round X K c barI (owedFrom c 0) _ (fun Kt' => wpE_semWait_eq 𝒱₀ (c : Thread nD τ) none Set.univ Kt') (mayWait_bar c) Kt

end Cert.KernelIdeal.Exchange
end
-- ==== Proof.Exchange.lean ====
/-
The whole exchange, and the cutting of the buffers into the pieces the steps pass around.
-/
module

public import proofs.«01_k».proof.Proof.Loops

@[expose] public section

set_option synthInstance.maxSize 4096

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1x4096x2048.Idx → Elt F .f32)

/-! ## The exchange -/

/-- Every chunk's send slot, receive slot (the device's own) and rows of the result, at some contents. -/
def sAny (c : Dev nD) : sProp 𝕄 := bigSep Finset.univ fun k : Fin 16 => iprop(∃ f, sPts (F := F) c k f)
def rAny (c : Dev nD) : sProp 𝕄 := bigSep Finset.univ fun k : Fin 16 => iprop(∃ f, rPts (F := F) c k f)
def oAny (c : Dev nD) : sProp 𝕄 := bigSep Finset.univ fun k : Fin 16 => iprop(∃ f, oPts (F := F) c k f)

/-- The duties device `c` pays, -/
def toks (c : Dev nD) : sProp 𝕄 :=
  iprop(dutyTok ER (cell (peer c) barI) 0 ()
    ∗ (bigSep Finset.univ fun k : Fin 16 => iprop(dutyTok ER (cell c (sndI k)) 0 ()))
    ∗ (bigSep Finset.univ fun k : Fin 16 => iprop(dutyTok ER (cell (peer c) (rcvI k)) 0 ())))
/-- its places in its own cells' rounds, -/
def places (c : Dev nD) : sProp 𝕄 := bigSep Finset.univ fun i : Cell => atPos ER (cell c i) 0 ∅ 0
/-- the tallies others owe it, -/
def creds (c : Dev nD) : sProp 𝕄 :=
  iprop(cred (tallyAt (cell c barI) () 1) ∗ (bigSep Finset.univ fun k : Fin 16 => cred (tallyAt (cell c (rcvI k)) () N)))
/-- and its cells at zero. -/
def zeros (c : Dev nD) : sProp 𝕄 := bigSep Finset.univ fun i : Cell => semVal (cell c i) 0

theorem bigSep_cell (Φ : Cell → sProp 𝕄) :
    bigSep Finset.univ Φ = iprop(Φ barI ∗ (bigSep Finset.univ fun k => Φ (sndI k)) ∗ (bigSep Finset.univ fun k => Φ (rcvI k))) := by
  rw [bigSep_univ_sum, bigSep_univ_sum, show (Finset.univ : Finset Unit) = {()} from rfl, bigSep_singleton]; rfl

/-- What the exchange starts from. -/
def before (c : Dev nD) : sProp 𝕄 :=
  iprop(vFree X c 0 ∗ vFree X c 1 ∗ wFree c 0 ∗ wFree c 1 ∗ sAny c ∗ rAny c ∗ oAny c)
/-- What it ends with. -/
def after (c : Dev nD) : sProp 𝕄 :=
  iprop(vFree X c 0 ∗ vFree X c 1 ∗ wFree c 0 ∗ wFree c 1
    ∗ (bigSep Finset.univ fun k : Fin 16 => sPts c k (wireC (X c)))
    ∗ (bigSep Finset.univ fun k : Fin 16 => rPts c k (wireC (X (peer c))))
    ∗ bigSep Finset.univ (outDone X c))

theorem send_start (c : Dev nD) :
    iprop(vBusy X c 0 ∗ vFree X c 1 ∗ sAny c ∗ barPay c
      ∗ (bigSep Finset.univ fun k : Fin 16 => iprop(dutyTok ER (cell c (sndI k)) 0 ()))
      ∗ (bigSep Finset.univ fun k : Fin 16 => iprop(dutyTok ER (cell (peer c) (rcvI k)) 0 ()))
      ∗ owesE c (owedFrom c 0)) ⊢ sendInv X c 0 := by
  unfold sendInv sAny barPay
  rw [show inOne X c 0 = vBusy X c 0 from inOne_at X c 0, from_zero, upto_zero, bigSep_empty]
  unfold sendRes
  rw [bigSep_sep', bigSep_sep', bigSep_sep']
  iintro ⟨Hb, Hv, Hs, Hr, Ht, Hu, HO⟩
  isplitl [Hb]; · iexact Hb
  isplitl [Hv]; · iexact Hv
  isplitl [Hs Hr Ht Hu]
  · isplitl [Hs]; · iexact Hs
    isplitl [Hr]; · iexact Hr
    isplitl [Ht] <;> iassumption
  isplitr [HO]
  · iempintro
  iexact HO

theorem send_end (c : Dev nD) :
    sendInv X c 16 ⊢ iprop(vFree X c 0 ∗ vFree X c 1
      ∗ (bigSep Finset.univ fun k : Fin 16 => cred (tallyAt (cell c (sndI k)) () N)) ∗ owesE c 0) := by
  unfold sendInv
  rw [show inOne X c 16 = vFree X c 0 from dif_neg (by decide), upto_all, owedFrom_all]
  iintro ⟨Hb, Hv, -, Hc, HO⟩
  isplitl [Hb]; · iexact Hb
  isplitl [Hv]; · iexact Hv
  isplitl [Hc] <;> iassumption

theorem recv_start (c : Dev nD) :
    iprop((bigSep Finset.univ fun k : Fin 16 => cred (tallyAt (cell c (rcvI k)) () N))
      ∗ (bigSep Finset.univ fun k : Fin 16 => atPos ER (cell c (rcvI k)) 0 ∅ 0)
      ∗ wFree c 0 ∗ wFree c 1 ∗ oAny c ∗ owesE c 0) ⊢ recvInv X c 0 := by
  unfold recvInv oAny
  rw [show outOne X c 0 = wFree c 0 from dif_neg (by decide), show outOne X c (0 + 1) = wFree c 1 from dif_neg (by decide),
    from_zero, upto_zero, bigSep_empty, bigSep_empty]
  unfold recvRes
  rw [bigSep_sep']
  iintro ⟨Hc, Ha, Hw, Hw', Ho, HO⟩
  isplitl [Hc Ha]
  · isplitl [Hc] <;> iassumption
  isplitr [Hw Hw' Ho HO]; · iempintro
  isplitl [Hw]; · iexact Hw
  isplitl [Hw']; · iexact Hw'
  isplitl [Ho]; · iexact Ho
  isplitr [HO]; · iempintro
  iexact HO

theorem sent_start (c : Dev nD) :
    iprop((bigSep Finset.univ fun k : Fin 16 => cred (tallyAt (cell c (sndI k)) () N))
      ∗ (bigSep Finset.univ fun k : Fin 16 => atPos ER (cell c (sndI k)) 0 ∅ 0) ∗ owesE c 0) ⊢ sentInv X c 0 := by
  unfold sentInv
  rw [from_zero, upto_zero, bigSep_empty]
  unfold sentRes
  rw [bigSep_sep']
  iintro ⟨Hc, Ha, HO⟩
  isplitl [Hc Ha]
  · isplitl [Hc] <;> iassumption
  isplitr [HO]; · iempintro
  iexact HO

theorem wp_exchange (K : Dev nD × Cell → ℕ) (c : Dev nD) (Kt : PUnit → sProp 𝕄) :
    iprop(env X K c ∗ before X c ∗ toks c ∗ places c ∗ creds c ∗ owesE c (O₀ c)
        ∗ (after X c ∗ zeros c ∗ owesE c 0 -∗ Kt ⟨⟩)) ⊢ wpc c (exchange (peer c)) Kt := by
  unfold before toks places creds zeros exchange wpc
  rw [bigSep_cell, bigSep_cell]
  iintro ⟨#Henv, ⟨Hv0, Hv1, Hw0, Hw1, Hs, Hr, Ho⟩, ⟨Htb, Hts, Htr⟩, ⟨Hab, Has, Har⟩, ⟨Hcb, Hcr⟩, HO, Hk⟩
  rw [wp_bind]
  iapply (wp_barSignal X K c)
  isplitr; · iexact Henv
  isplitl [HO]; · iexact HO
  isplitl [Htb]; · iexact Htb
  isplitl [Hr]; · unfold rAny; iexact Hr
  iintro HO
  rw [wp_bind]
  iapply (wp_barWait X K c)
  isplitr; · iexact Henv
  isplitl [Hcb]; · iexact Hcb
  isplitl [Hab]; · iexact Hab
  isplitl [HO]; · iexact HO
  iintro ⟨Hp, Hzb, HO⟩
  rw [wp_bind]
  iapply (wp_inStart X c 0)
  isplitl [Hv0]; · iexact Hv0
  iintro Hb
  rw [wp_bind]
  iapply (wp_sendAll X K c)
  isplitl [Hb Hv1 Hs Hp Hts Htr HO]
  · isplitr; · iexact Henv
    iapply (send_start X c)
    isplitl [Hb]; · iexact Hb
    isplitl [Hv1]; · iexact Hv1
    isplitl [Hs]; · iexact Hs
    isplitl [Hp]; · iexact Hp
    isplitl [Hts]; · iexact Hts
    isplitl [Htr] <;> iassumption
  iintro ⟨-, HI⟩
  ihave HI := (send_end X c) $$ HI
  icases HI with ⟨Hv0, Hv1, Hcs, HO⟩
  rw [wp_bind]
  iapply (wp_recvAll X K c)
  isplitl [Hcr Har Hw0 Hw1 Ho HO]
  · isplitr; · iexact Henv
    iapply (recv_start X c)
    isplitl [Hcr]; · iexact Hcr
    isplitl [Har]; · iexact Har
    isplitl [Hw0]; · iexact Hw0
    isplitl [Hw1]; · iexact Hw1
    isplitl [Ho] <;> iassumption
  unfold recvInv
  rw [upto_all]
  unfold recvDone
  rw [bigSep_sep']
  iintro ⟨-, -, ⟨Hr, Hzr⟩, Hw0, Hw1, -, Hd, HO⟩
  rw [wp_bind]
  iapply (wp_outDone X c 14)
  isplitl [Hw0]; · iexact Hw0
  isplitl [Hd]; · iexact Hd
  isplitl [HO]; · iexact HO
  iintro ⟨Hw0, Hd, HO⟩
  rw [wp_bind]
  iapply (wp_outDone X c 15)
  isplitl [Hw1]; · iexact Hw1
  isplitl [Hd]; · iexact Hd
  isplitl [HO]; · iexact HO
  iintro ⟨Hw1, Hd, HO⟩
  iapply (wp_sentAll X K c)
  isplitl [Hcs Has HO]
  · isplitr; · iexact Henv
    iapply (sent_start X c)
    isplitl [Hcs]; · iexact Hcs
    isplitl [Has] <;> iassumption
  unfold sentInv
  rw [upto_all]
  unfold sentDone
  rw [bigSep_sep']
  iintro ⟨-, -, ⟨Hs, Hzs⟩, HO⟩
  iapply Hk
  unfold after
  isplitl [Hv0 Hv1 Hw0 Hw1 Hs Hr Hd]
  · isplitl [Hv0]; · iexact Hv0
    isplitl [Hv1]; · iexact Hv1
    isplitl [Hw0]; · iexact Hw0
    isplitl [Hw1]; · iexact Hw1
    isplitl [Hs]; · iexact Hs
    isplitl [Hr]; · iexact Hr
    rw [← upto_all]
    iexact Hd
  isplitl [Hzb Hzs Hzr]
  · isplitl [Hzb]; · iexact Hzb
    isplitl [Hzs] <;> iassumption
  iexact HO

/-! ## Cutting the buffers -/

theorem two_cover : (Finset.univ.biUnion fun s : Fin 2 => (rTwo s).set) = (Finset.univ : Finset S2x256x2048.Idx) := by
  refine Finset.eq_univ_iff_forall.mpr fun i => Finset.mem_biUnion.mpr ⟨i 0, Finset.mem_univ _, Rect.mem_set_unit.mpr fun a => ?_⟩
  have h1 : (i 1).val < 256 := (i 1).isLt
  have h2 : (i 2).val < 2048 := (i 2).isLt
  match a with
  | ⟨0, _⟩ => exact ⟨Nat.le_refl _, Nat.lt_succ_self _⟩
  | ⟨1, _⟩ => exact ⟨Nat.zero_le _, by show (i 1).val < 0 + 256; omega⟩
  | ⟨2, _⟩ => exact ⟨Nat.zero_le _, by show (i 2).val < 0 + 2048; omega⟩
theorem two_disjoint : ∀ s ∈ (Finset.univ : Finset (Fin 2)), ∀ s' ∈ (Finset.univ : Finset (Fin 2)), s ≠ s' → Disjoint (rTwo s).set (rTwo s').set :=
  fun s _ s' _ h => Rect.unit_disjoint (0 : Fin 3) (by
    have : s.val ≠ s'.val := fun e => h (Fin.ext e)
    show s.val + 1 ≤ s'.val ∨ s'.val + 1 ≤ s.val; omega)

theorem slot_cover : (Finset.univ.biUnion fun k : Fin 16 => (rSlot k).set) = (Finset.univ : Finset S16x256x2048.Idx) := by
  refine Finset.eq_univ_iff_forall.mpr fun i => Finset.mem_biUnion.mpr ⟨i 0, Finset.mem_univ _, Rect.mem_set_unit.mpr fun a => ?_⟩
  have h1 : (i 1).val < 256 := (i 1).isLt
  have h2 : (i 2).val < 2048 := (i 2).isLt
  match a with
  | ⟨0, _⟩ => exact ⟨Nat.le_refl _, Nat.lt_succ_self _⟩
  | ⟨1, _⟩ => exact ⟨Nat.zero_le _, by show (i 1).val < 0 + 256; omega⟩
  | ⟨2, _⟩ => exact ⟨Nat.zero_le _, by show (i 2).val < 0 + 2048; omega⟩
theorem slot_disjoint : ∀ k ∈ (Finset.univ : Finset (Fin 16)), ∀ k' ∈ (Finset.univ : Finset (Fin 16)), k ≠ k' → Disjoint (rSlot k).set (rSlot k').set :=
  fun k _ k' _ h => Rect.unit_disjoint (0 : Fin 3) (by
    have : k.val ≠ k'.val := fun e => h (Fin.ext e)
    show k.val + 1 ≤ k'.val ∨ k'.val + 1 ≤ k.val; omega)

theorem row_cover : (Finset.univ.biUnion fun k : Fin 16 => (rRow k).set) = (Finset.univ : Finset S1x4096x2048.Idx) := by
  refine Finset.eq_univ_iff_forall.mpr fun i => Finset.mem_biUnion.mpr ?_
  have h0 : (i 0).val < 1 := (i 0).isLt
  have h1 : (i 1).val < 4096 := (i 1).isLt
  have h2 : (i 2).val < 2048 := (i 2).isLt
  refine ⟨⟨(i 1).val / 256, by omega⟩, Finset.mem_univ _, Rect.mem_set_unit.mpr fun a => ?_⟩
  match a with
  | ⟨0, _⟩ => exact ⟨Nat.zero_le _, by show (i 0).val < 0 + 1; omega⟩
  | ⟨1, _⟩ => exact ⟨by show 256 * ((i 1).val / 256) ≤ (i 1).val; omega, by show (i 1).val < 256 * ((i 1).val / 256) + 256; omega⟩
  | ⟨2, _⟩ => exact ⟨Nat.zero_le _, by show (i 2).val < 0 + 2048; omega⟩
theorem row_disjoint : ∀ k ∈ (Finset.univ : Finset (Fin 16)), ∀ k' ∈ (Finset.univ : Finset (Fin 16)), k ≠ k' → Disjoint (rRow k).set (rRow k').set :=
  fun k _ k' _ h => Rect.unit_disjoint (1 : Fin 3) (by
    have : k.val ≠ k'.val := fun e => h (Fin.ext e)
    show 256 * k.val + 256 ≤ 256 * k'.val ∨ 256 * k'.val + 256 ≤ 256 * k.val; omega)

section Cut
variable {T : Type} [Fintype T] [DecidableEq T] (ℓ : Loc nD τ sig) (J : T → Finset (Idx ℓ))
  (hcover : Finset.univ.biUnion J = (Finset.univ : Finset (Idx ℓ)))
  (hdisj : ∀ t ∈ (Finset.univ : Finset T), ∀ t' ∈ (Finset.univ : Finset T), t ≠ t' → Disjoint (J t) (J t'))
include hcover hdisj

/-- A buffer whole is its pieces, all at the same contents. -/
theorem whole_pieces (f : Buf (Elt F) ℓ) :
    (ℓ ↦{fullShare} f : sProp 𝕄) = bigSep Finset.univ fun t => ℓ ↦[J t]{fullShare} f := by
  rw [← pointsTo_biUnion Finset.univ J hdisj, hcover]

/-- Whole at some contents: so are its pieces, -/
theorem cut : iprop(∃ f : Buf (Elt F) ℓ, ℓ ↦{fullShare} f) ⊢ (bigSep Finset.univ fun t => iprop(∃ f : Buf (Elt F) ℓ, ℓ ↦[J t]{fullShare} f) : sProp 𝕄) := by
  refine exists_elim fun f => (Entails.of_eq (whole_pieces ℓ J hcover hdisj f)).trans ?_
  exact bigSep_mono fun t _ => exists_intro (Φ := fun f : Buf (Elt F) ℓ => (ℓ ↦[J t]{fullShare} f : sProp 𝕄)) f

/-- and the other way. -/
theorem glue (f₀ : Buf (Elt F) ℓ) : (bigSep Finset.univ fun t => iprop(∃ f : Buf (Elt F) ℓ, ℓ ↦[J t]{fullShare} f) : sProp 𝕄) ⊢ iprop(∃ f : Buf (Elt F) ℓ, ℓ ↦{fullShare} f) := by
  refine (bigSep_exists_pi Finset.univ (fun t (f : Buf (Elt F) ℓ) => (ℓ ↦[J t]{fullShare} f : sProp 𝕄))).trans ?_
  iintro ⟨%fs, H⟩
  ihave H := (pointsTo_biUnion_join Finset.univ J fs f₀ hdisj) $$ H
  rw [hcover]
  icases H with ⟨%g, -, H⟩
  iexists g; iexact H

end Cut

end Cert.KernelIdeal.Exchange
end
-- ==== Proof.Ghost.lean ====
/-
The launch's ghost state: minting the exchange's rounds, dealing every device its own places and the duties it
pays, and the tallies it is owed.
-/
module

public import proofs.«01_k».proof.Proof.Exchange
public import proofs.«01_k».proof.Proof.Gen.KernelIdeal.Frame

@[expose] public section

set_option synthInstance.maxSize 4096

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1x4096x2048.Idx → Elt F .f32)

/-! ## The kernel's own semaphores -/

/-- The local copies' semaphores: reading, writing, keeping. -/
abbrev Near : Type := Fin 2 ⊕ (Fin 2 ⊕ Unit)
def nsem : Near → SemLoc sig
  | .inl s => .dma (inSem s)
  | .inr (.inl s) => .dma (outSem s)
  | .inr (.inr _) => .dma ownSem
/-- All the kernel's own: the local ones, the departures, the arrivals. -/
abbrev Own : Type := Near ⊕ (Fin 16 ⊕ Fin 16)
def osem : Own → SemLoc sig
  | .inl n => nsem n
  | .inr k => csem (.inr k)

theorem ownSemFacts : Pipeline.OwnSemFacts cfg0.spec osem := by decide

/-- A device's local semaphores at zero. -/
def nears (c : Dev nD) : sProp 𝕄 := bigSep Finset.univ fun n : Near => semVal ((c : Thread nD τ), nsem n) 0
/-- All its own at zero. -/
abbrev owns0 (c : Dev nD) : sProp 𝕄 := Pipeline.ownSems0 (Ix := Unit) (Name := ℕ) (U := UU) (Lvl := ℕ) (Val := Elt F) (τ := τ) osem c

theorem unscoped_eq (c : Dev nD) : (unscopedSems0 c : sProp 𝕄) = semVal (cell c barI) 0 := by
  unfold unscopedSems0; rw [bigSep_eq_bigSepL_of_eq [SemLoc.reg barSem] (by decide) (by decide)]; rfl

theorem sep_last (P Q R : sProp 𝕄) : iprop((P ∗ Q) ∗ R) = iprop(P ∗ R ∗ Q) := by
  have h : iprop((P ∗ Q) ∗ R) ⊢ iprop(P ∗ R ∗ Q) := by
    iintro ⟨⟨HP, HQ⟩, HR⟩
    isplitl [HP]; · iexact HP
    isplitl [HR] <;> iassumption
  have h' : iprop(P ∗ R ∗ Q) ⊢ iprop((P ∗ Q) ∗ R) := by
    iintro ⟨HP, HR, HQ⟩
    isplitr [HR]
    · isplitl [HP] <;> iassumption
    · iexact HR
  exact BI.equiv_iff.mp ⟨h, h'⟩

/-- Its own and the barrier at zero: the local ones and the cells. -/
theorem sems_eq (c : Dev nD) : (iprop(owns0 c ∗ unscopedSems0 c) : sProp 𝕄) = iprop(nears c ∗ zeros c) := by
  rw [unscoped_eq]
  unfold owns0 Pipeline.ownSems0 nears zeros
  rw [bigSep_univ_sum, bigSep_univ_sum (Φ := fun i : Cell => (semVal (cell c i) 0 : sProp 𝕄)), show (Finset.univ : Finset Unit) = {()} from rfl, bigSep_singleton]
  exact sep_last _ _ _

/-! ## The launch's element -/

theorem cell_injective : Function.Injective fun ci : Dev nD × Cell => cell ci.1 ci.2 := fun a b h =>
  Prod.ext (congrArg (fun g : GSem nD τ sig => g.1.1) h) (csem_injective (congrArg Prod.snd h))

def allCells : Finset (GSem nD τ sig) := Finset.univ.map ⟨fun ci : Dev nD × Cell => cell ci.1 ci.2, cell_injective⟩
def allToks : Finset (GSem nD τ sig × ℕ × Unit) :=
  Finset.univ.map ⟨fun ci : Dev nD × Cell => (cell ci.1 ci.2, 0, ()), fun a b h => cell_injective (congrArg Prod.fst h)⟩

def u₀ : UU := (initOf (Pipeline.cells cfgs cellOf_inj) (Pipeline.launchToks cfgs cellOf_inj), (initOf allCells allToks, 1))

/-- What the launch mints for device `c`. -/
def G (c : Dev nD) : sProp 𝕄 :=
  iprop((bigSep Finset.univ fun i : Cell => roundState ER (sched X) (cell c i) 0) ∗ places c ∗ begun c
    ∗ bigSep Finset.univ fun i : Cell => dutyTok ER (cell c i) 0 ())

theorem all_cells (Φ : GSem nD τ sig → sProp 𝕄) :
    bigSep allCells Φ = bigSep Finset.univ fun c : Dev nD => bigSep Finset.univ fun i : Cell => Φ (cell c i) := by
  unfold allCells; rw [bigSep_map, bigSep_univ_prod]; rfl

theorem fund_all : BI.own (ER (initOf allCells allToks)) ⊢ (|==> bigSep Finset.univ (G X) : sProp 𝕄) := by
  have hT : bigSep allToks (fun x => (dutyTok ER x.1 x.2.1 x.2.2 : sProp 𝕄))
      = bigSep Finset.univ fun c : Dev nD => bigSep Finset.univ fun i : Cell => dutyTok ER (cell c i) 0 () := by
    unfold allToks; rw [bigSep_map, bigSep_univ_prod]; rfl
  iintro H
  imod (Rounds.fund ER (sched X) allCells allToks) $$ H with ⟨Hst, Hr, Hat, Htok⟩
  imodintro
  ihave Hst := (Entails.of_eq (all_cells fun g => roundState ER (sched X) g 0)) $$ Hst
  ihave Hr := (Entails.of_eq (all_cells (F := F) fun g => reached ER g 0)) $$ Hr
  ihave Hat := (Entails.of_eq (all_cells (F := F) fun g => atPos ER g 0 ∅ 0)) $$ Hat
  ihave Htok := (Entails.of_eq hT) $$ Htok
  unfold G places begun
  simp only [bigSep_sep']
  isplitl [Hst]; · iexact Hst
  isplitl [Hat]; · iexact Hat
  isplitl [Hr] <;> iassumption

theorem launch_split : (ownU u₀ : sProp 𝕄)
    ⊢ iprop(BI.own (EP (initOf (Pipeline.cells cfgs cellOf_inj) (Pipeline.launchToks cfgs cellOf_inj))) ∗ BI.own (ER (initOf allCells allToks)) : sProp 𝕄) :=
  BI.own_op_elim ((uEmb (nD := nD) (τ := τ) (sig := sig) (Ix := Unit) (Val := Elt F) (Name := ℕ) (U := UU) (Lvl := ℕ)).toEmb.op_of_mem
    (Prod.mk_mem_op (URA.mem_op_one _) (URA.mem_one_op _)))

/-! ## Setting the protocol up -/

/-- What device `c` runs the exchange with. -/
def ghost (c : Dev nD) : sProp 𝕄 :=
  iprop((∃ K, invs X K c ∗ invs X K (peer c)) ∗ (begun c ∗ begun (peer c)) ∗ places c ∗ toks c ∗ nears c)

/-- One device's cells opened. -/
theorem open_cells (c : Dev nD) :
    iprop(owns0 c ∗ unscopedSems0 c ∗ G X c)
      ⊢ |={Set.univ}=> iprop((bigSep Finset.univ fun i : Cell => iprop(∃ κ : ℕ, cellInv ER (sched X) κ (cell c i)))
          ∗ begun c ∗ places c ∗ (bigSep Finset.univ fun i : Cell => dutyTok ER (cell c i) 0 ()) ∗ nears c) := by
  have h : iprop((bigSep Finset.univ fun i : Cell => semVal (cell c i) 0) ∗ bigSep Finset.univ fun i : Cell => roundState ER (sched X) (cell c i) 0)
      ⊢ (|={Set.univ}=> bigSep Finset.univ fun i : Cell => iprop(∃ κ : ℕ, cellInv ER (sched X) κ (cell c i)) : sProp 𝕄) := by
    rw [← bigSep_sep']
    exact (bigSep_mono fun i _ => (Rounds.body_intro ER (sched X) (cell c i)).trans inv_alloc).trans (bigSep_fupd _ _)
  unfold G
  iintro ⟨Ho, Hu, Hst, Hp, Hb, Ht⟩
  ihave Hs := (Entails.of_eq (sems_eq (F := F) c)) $$ [Ho Hu]
  · isplitl [Ho] <;> iassumption
  unfold zeros
  icases Hs with ⟨Hn, Hz⟩
  imod h $$ [Hz Hst] with Hi
  · isplitl [Hz] <;> iassumption
  imodintro
  isplitl [Hi]; · iexact Hi
  isplitl [Hb]; · iexact Hb
  isplitl [Hp]; · iexact Hp
  isplitl [Ht] <;> iassumption

/-- The duties dealt to those who pay them. -/
theorem deal : (bigSep Finset.univ fun c : Dev nD => bigSep Finset.univ fun i : Cell => dutyTok ER (cell c i) 0 () : sProp 𝕄)
    ⊢ bigSep Finset.univ fun c : Dev nD => toks c := by
  rw [bigSep_congr (s := Finset.univ) fun (c : Dev nD) _ => bigSep_cell (F := F) fun i => dutyTok ER (cell c i) 0 ()]
  unfold toks
  rw [bigSep_sep', bigSep_sep', bigSep_sep', bigSep_sep',
    bigSep_univ_equiv swapDev (fun c : Dev nD => (dutyTok ER (cell c barI) 0 () : sProp 𝕄)),
    bigSep_univ_equiv swapDev (fun c : Dev nD => (bigSep Finset.univ fun k : Fin 16 => dutyTok ER (cell c (rcvI k)) 0 () : sProp 𝕄))]
  exact .rfl

/-- All devices' invariants and marks, whichever device asks. -/
def known (K : Dev nD × Cell → ℕ) : sProp 𝕄 :=
  iprop((bigSep Finset.univ fun c : Dev nD => invs X K c) ∗ bigSep Finset.univ fun c : Dev nD => begun (F := F) c)
instance known_persistent (K : Dev nD × Cell → ℕ) : BI.Persistent (known X K) := by unfold known; infer_instance

theorem ghost_of (K : Dev nD × Cell → ℕ) (c : Dev nD) : iprop(known X K ∗ places c ∗ toks c ∗ nears c) ⊢ ghost X c := by
  have hi (d : Dev nD) : (bigSep Finset.univ fun c : Dev nD => invs X K c) ⊢ invs X K d := bigSep_elim (Finset.mem_univ d)
  have hb (d : Dev nD) : (bigSep Finset.univ fun c : Dev nD => begun (F := F) c) ⊢ begun d := bigSep_elim (Finset.mem_univ d)
  unfold known ghost
  iintro ⟨⟨#HI, #HB⟩, Hr⟩
  isplitr
  · iexists K
    isplitr
    · iapply (hi c); iexact HI
    · iapply (hi (peer c)); iexact HI
  isplitr
  · isplitr
    · iapply (hb c); iexact HB
    · iapply (hb (peer c)); iexact HB
  iexact Hr

theorem ghost_all :
    (bigSep Finset.univ fun c : Dev nD => iprop((bigSep Finset.univ fun i : Cell => iprop(∃ κ : ℕ, cellInv ER (sched X) κ (cell c i)))
          ∗ begun c ∗ places c ∗ (bigSep Finset.univ fun i : Cell => dutyTok ER (cell c i) 0 ()) ∗ nears c) : sProp 𝕄)
      ⊢ bigSep Finset.univ (ghost X) := by
  rw [bigSep_sep', bigSep_sep', bigSep_sep', bigSep_sep',
    ← bigSep_univ_prod (fun ci : Dev nD × Cell => iprop(∃ κ : ℕ, cellInv ER (sched X) κ (cell ci.1 ci.2)))]
  iintro ⟨HI, #HB, Hp, Ht, Hn⟩
  ihave HK := (BI.bigSep_exists_pi Finset.univ (fun (ci : Dev nD × Cell) (κ : ℕ) => (cellInv ER (sched X) κ (cell ci.1 ci.2) : sProp 𝕄))) $$ HI
  icases HK with ⟨%K, #HI⟩
  ihave Ht := (deal (F := F)) $$ Ht
  iapply (bigSep_with_persistent (R := known X K) fun c _ => ghost_of X K c)
  isplitr
  · unfold known invs
    isplitr
    · iapply (Entails.of_eq (bigSep_univ_prod fun ci : Dev nD × Cell => (cellInv ER (sched X) (K ci) (cell ci.1 ci.2) : sProp 𝕄))); iexact HI
    · iexact HB
  · simp only [bigSep_sep']
    isplitl [Hp]; · iexact Hp
    isplitl [Ht] <;> iassumption

theorem set_up : (bigSep Finset.univ fun c : Dev nD => iprop(owns0 c ∗ unscopedSems0 c ∗ G X c) : sProp 𝕄)
    ⊢ |={Set.univ}=> bigSep Finset.univ (ghost X) :=
  ((bigSep_mono fun c _ => open_cells X c).trans (bigSep_fupd _ _)).trans (BI.fupd_mono (ghost_all X))

/-! ## The tallies a device is owed -/

theorem owed_bar (d c : Dev nD) : O₀ d (cell c barI) () = if d = peer c then 1 else 0 := by
  have h0 : owedFrom d 0 (cell c barI) () = 0 := Nat.eq_zero_of_not_pos fun h => by
    obtain ⟨k, hk⟩ := owedFrom_pos h
    cases congrArg Prod.snd hk
  unfold O₀
  rw [Pi.add_apply, Finsupp.add_apply, h0, Nat.zero_add, tallyAt_apply]
  by_cases h : d = peer c
  · subst h; rw [peer_peer, if_pos ⟨rfl, rfl⟩, if_pos rfl]
  · rw [if_neg (fun h' => h (by rw [← peer_peer d]; exact congrArg peer (congrArg (fun g : GSem nD τ sig => g.1.1) h'.1).symm)), if_neg h]

theorem owed_rcv (d c : Dev nD) (k : Fin 16) : O₀ d (cell c (rcvI k)) () = if d = peer c then N else 0 := by
  unfold O₀ owedFrom
  rw [Pi.add_apply, Finsupp.add_apply, tallyAt_apply, if_neg (fun h => by cases congrArg Prod.snd h.1), Nat.add_zero,
    Finset.sum_apply, Finsupp.finset_sum_apply, from_zero,
    Finset.sum_congr rfl fun j _ => (show tallyAt (cell (peer d) (rcvI j)) () N (cell c (rcvI k)) () = if j = k then (if d = peer c then N else 0) else 0 from ?_),
    Finset.sum_ite_eq' Finset.univ k fun _ => _, if_pos (Finset.mem_univ _)]
  rw [tallyAt_apply]
  by_cases hj : j = k
  · subst hj
    rw [if_pos rfl]
    by_cases h : d = peer c
    · subst h; rw [peer_peer, if_pos ⟨rfl, rfl⟩, if_pos rfl]
    · rw [if_neg (fun h' => h (by rw [← peer_peer d]; exact congrArg peer (congrArg (fun g : GSem nD τ sig => g.1.1) h'.1).symm)), if_neg h]
  · rw [if_neg hj, if_neg (fun h' => hj (by
      have e : rcvI k = rcvI j := csem_injective (congrArg Prod.snd h'.1)
      exact (Sum.inr.inj (Sum.inr.inj e)).symm))]

/-- What the launch credits a cell of `c` with, when only `c`'s peer owes it. -/
theorem launch_cell (c : Dev nD) (i : Cell) (n : ℕ) (h : ∀ d, O₀ d (cell c i) () = if d = peer c then n else 0) :
    tallyOn (cell c i) (launchCredit (Pipeline.owing O₀) 0 (cell c i)) = (tallyAt (cell c i) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem creds_of (c : Dev nD) : (Pipeline.launchCred O₀ c : sProp 𝕄) ⊢ creds c := by
  unfold Pipeline.launchCred creds
  have hsub : Finset.univ.map ⟨csem, csem_injective⟩ ⊆ (Finset.univ : Finset (SemLoc sig)) := Finset.subset_univ _
  refine (bigSep_subset hsub).trans ?_
  rw [bigSep_map, bigSep_cell]
  have h (P Q R : sProp 𝕄) : iprop(P ∗ Q ∗ R) ⊢ iprop(P ∗ R) := by
    iintro ⟨HP, -, HR⟩
    isplitl [HP] <;> iassumption
  refine (h _ _ _).trans (BI.sep_mono (Entails.of_eq (congrArg cred (launch_cell c barI 1 fun d => owed_bar d c)))
    (bigSep_mono fun k _ => Entails.of_eq (congrArg cred (launch_cell c (rcvI k) N fun d => owed_rcv d c k))))

end Cert.KernelIdeal.Exchange
end
-- ==== Proof.Run.lean ====
/-
From the kernel's body to the program's run, whatever the body's two cases do with the launch's means.
-/
module

public import proofs.«01_k».proof.Proof.Ghost
public import Idealize.ShloMosaic.Lib.Quiescent
public import Idealize.ShloMosaic.Lib.Pipeline.CollectiveSegs

@[expose] public section

set_option synthInstance.maxSize 4096

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The three arrays -/

/-- What a memory holds as `x`, -/
def xs (c : Dev nD) : S1x4096x2048.Idx → Elt F .f32 := m ((c : Thread nD τ).loc main_arg0)
/-- what the kernel finds as the permutation. -/
def pis (c : Dev nD) : (cc0_stg0_0 : Ref sig .tc).ty.Contents (Elt F) := iblk m c 0 t0_0

def xAll (c : Dev nD) : sProp 𝕄 := (c : Thread nD τ).loc main_arg0 ↦{fullShare} (xs m c : Buf (Elt F) ((c : Thread nD τ).loc main_arg0))
def oAll (c : Dev nD) (f : S1x4096x2048.Idx → Elt F .f32) : sProp 𝕄 := (c : Thread nD τ).loc main_v1 ↦{fullShare} (f : Buf (Elt F) ((c : Thread nD τ).loc main_v1))
def piAll (c : Dev nD) : sProp 𝕄 := (c : Thread nD τ).loc cc0_stg0_0 ↦{fullShare} (pis m c : Buf (Elt F) ((c : Thread nD τ).loc cc0_stg0_0))
abbrev scratch (c : Dev nD) : sProp 𝕄 := Pipeline.scopedRest (Ix := Unit) (Name := ℕ) (U := UU) (Lvl := ℕ) (Val := Elt F) spec0 c

/-! ## A body, run -/

section Run
variable (O : Dev nD → CellTallies nD τ sig Unit) (G' : Dev nD → sProp (MT nD τ sig Unit (Elt F) ℕ UU ℕ)) (out : Dev nD → S1x4096x2048.Idx → Elt F .f32)

/-- What the body starts from, -/
def opening (c : Dev nD) : sProp 𝕄 :=
  iprop(levAts L lv ∗ Pipeline.launchCred O c ∗ G' c ∗ xAll m c ∗ oAll c (m ((c : Thread nD τ).loc main_v1)) ∗ scratch c)
/-- and ends with. -/
def closing (c : Dev nD) : sProp 𝕄 := iprop(xAll m c ∗ oAll c (out c) ∗ nears c ∗ zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pis m c
  Φ t := match t with
    | ⟨0, _⟩ => opening m O G' c
    | ⟨_ + 1, _⟩ => closing m out c
  q _ := fullShare
  owed t := match t with
    | ⟨0, _⟩ => O c
    | ⟨_ + 1, _⟩ => 0

/-- A staging buffer at given contents. -/
abbrev stg (c : Dev nD) (b : Ref sig .tc) (f : b.ty.Contents (Elt F)) : sProp 𝕄 :=
  iprop(∃ g : Buf (Elt F) ((c : Thread nD τ).loc b), ⌜g = f⌝ ∗ ((c : Thread nD τ).loc b) ↦{fullShare} g)

theorem owns_stg (c : Dev nD) (b : Ref sig .tc) (f : b.ty.Contents (Elt F)) :
    (owns (Ix := Unit) (Name := ℕ) (U := UU) (Lvl := ℕ) (c : Thread nD τ) (Memref.whole b) fullShare f : sProp 𝕄) = stg c b f := by
  unfold owns; simp only [Memref.view_whole, View.read_whole, View.set_whole]

theorem fetch_pi (t : Fin cfg0.N) : (cfg0.win (0 : Fin 1)).fetch t = true := by rw [fin_N0 t]; rfl

/-- The body of either case: from its opening to its exit, its debts paid. -/
def Sound : Prop :=
  ∀ (c : Dev nD) (Kt : PUnit → sProp 𝕄),
    (iprop(opening m O G' c ∗ owesE c (O c) ∗ piAll m c ∗ (closing m out c ∗ owesE c 0 ∗ piAll m c -∗ Kt ⟨⟩)) : sProp 𝕄)
      ⊢ wpc c (body (Memref.whole cc0_stg0_0)) Kt

def pre' (c : Dev nD) : sProp 𝕄 :=
  iprop(opening m O G' c ∗ (dats m ρ O G' out 0 c).owesAt () t0_0.castSucc ∗ ∃ d, stg c cc0_stg0_0 ((dats m ρ O G' out 0 c).before (0 : Fin 1) t0_0 d))
def post' (c : Dev nD) : sProp 𝕄 :=
  iprop(closing m out c ∗ (dats m ρ O G' out 0 c).owesAt () t0_0.succ ∗ stg c cc0_stg0_0 (pis m c))

theorem body_runs (hb : Sound m O G' out) (c : Dev nD) :
    pre' m ρ O G' out c ⊢ wpc c (body (Memref.whole cc0_stg0_0)) (fun _ => post' m ρ O G' out c) := by
  unfold pre'
  iintro ⟨He, Ho, ⟨%d, %g, %hg, Hp⟩⟩
  have hp : g = pis m c := by rw [hg]; unfold Dat.before; rw [if_pos (fetch_pi t0_0)]; rfl
  subst hp
  unfold Dat.owesAt Pipeline.owesWithin
  icases Ho with ⟨%W, %hW, HO⟩
  rw [show (dats m ρ O G' out 0 c).owed t0_0.castSucc = O c from rfl]
  iapply (hb c)
  isplitl [He]; · iexact He
  isplitl [HO]
  · unfold owesE; iexists W; iexact HO
  isplitl [Hp]
  · unfold piAll; iexact Hp
  unfold owesE piAll
  iintro ⟨He, ⟨%W', HO⟩, Hp⟩
  unfold post' Dat.owesAt Pipeline.owesWithin
  isplitl [He]; · iexact He
  isplitl [HO]
  · rw [show (dats m ρ O G' out 0 c).owed t0_0.succ = 0 from rfl]
    iexists W'
    isplitr
    · ipureintro; exact fun _ _ => Or.inl trivial
    · iexact HO
  iexists _
  isplitr
  · ipureintro; rfl
  · iexact Hp

set_option maxRecDepth 4000 in
theorem body_obligation (hb : Sound m O G' out) (c : Dev nD) :
    BodyObligation (dats m ρ O G' out 0 c) (defs₀ (F := F)) 𝒱₀ () Set.univ := fun t => by
  rw [fin_N0 t, bigSep_W0, bigSep_W0]
  simp only [owns_stg]
  have h := body_runs m ρ O G' out hb c
  rw [← body_eq (Memref.whole cc0_stg0_0) (Memref.isWhole_whole _)] at h
  exact h

theorem share_eq (c : Dev nD) (w : Fin cfg0.W) : (dats m ρ O G' out 0 c).share w = fullShare := by unfold Dat.share; split <;> rfl

theorem waits (hO : ∀ c : Dev nD, (levAts L lv : sProp 𝕄) ⊢ MayWait (c : Thread nD τ) (.dma ((cfg0.win (0 : Fin 1)).sem 0)) () (O c)) (c : Dev nD) :
    (levAts L lv : sProp 𝕄) ⊢ Pipeline.cellsWaits cfgs (dats m ρ O G' out) () 0 c :=
  Pipeline.cellsWaits_intro cfgs (dats m ρ O G' out) () 0 c fun w s t => by
    fin_cases w
    fin_cases s
    rcases t with ⟨_ | _, ht⟩
    · exact hO c
    · show (levAts L lv : sProp 𝕄) ⊢ MayWait (c : Thread nD τ) _ () 0
      rw [MayWait_zero]; iintro -; iempintro

theorem start_of (c : Dev nD) :
    iprop(Pipeline.unscopedRestP Pipeline.Prefetch.none cfg0.spec c (fun b => m ((c : Thread nD τ).loc b)) ∗ levAts L lv
        ∗ Pipeline.launchCred O c ∗ prngReg c (ρ c) ∗ G' c)
      ⊢ |={Set.univ}=> iprop((levAts L lv ∗ Pipeline.launchCred O c ∗ G' c ∗ xAll m c ∗ oAll c (m ((c : Thread nD τ).loc main_v1))) ∗ emp) := by
  rw [Pipeline.unscopedRestP_none, unscopedRest0_eq]
  unfold xAll oAll xs
  iintro ⟨⟨Hx, Ho⟩, Hl, Hc, -, HG⟩
  imodintro
  isplitl
  · isplitl [Hl]; · iexact Hl
    isplitl [Hc]; · iexact Hc
    isplitl [HG]; · iexact HG
    isplitl [Hx]
    · iexact Hx
    · iexact Ho
  · iempintro

theorem opening_of (c : Dev nD) :
    iprop((levAts L lv ∗ Pipeline.launchCred O c ∗ G' c ∗ xAll m c ∗ oAll c (m ((c : Thread nD τ).loc main_v1)))
        ∗ Pipeline.prefHeld Pipeline.Prefetch.none c (fun _ => fullShare.right) (fun k => k.elim0) ∗ Pipeline.scopedRest cfg0.spec c)
      ⊢ (dats m ρ O G' out 0 c).Φ 0 := by
  rw [show (dats m ρ O G' out 0 c).Φ 0 = opening m O G' c from rfl]
  unfold opening
  iintro ⟨⟨Hl, Hc, HG, Hx, Ho⟩, -, Hs⟩
  isplitl [Hl]; · iexact Hl
  isplitl [Hc]; · iexact Hc
  isplitl [HG]; · iexact HG
  isplitl [Hx]; · iexact Hx
  isplitl [Ho] <;> iassumption

theorem exit_to (c : Dev nD) :
    (dats m ρ O G' out 0 c).Φ (Fin.last cfg0.N)
      ⊢ iprop((xAll m c ∗ oAll c (out c) ∗ unscopedSems0 c) ∗ owns0 c ∗ Pipeline.scopedRest cfg0.spec c) := by
  rw [show (dats m ρ O G' out 0 c).Φ (Fin.last cfg0.N) = closing m out c from rfl]
  unfold closing
  iintro ⟨Hx, Ho, Hn, Hz, Hs⟩
  ihave H := (Entails.of_eq (sems_eq (F := F) c).symm) $$ [Hn Hz]
  · isplitl [Hn] <;> iassumption
  icases H with ⟨Hw, Hu⟩
  isplitl [Hx Ho Hu]
  · isplitl [Hx]; · iexact Hx
    isplitl [Ho] <;> iassumption
  isplitl [Hw] <;> iassumption

/-- A buffer held whole is what the memory holds. -/
theorem read_one (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  have h := Idealize.ShloMosaic.pointsTo_read_all (Ix := Unit) (Name := ℕ) (U := UU) (Lvl := ℕ) ({()} : Finset Unit) (fun _ => ℓ) (fun _ => f) s'
  rw [bigSep_singleton] at h
  iintro H
  ihave H := h $$ H
  icases H with ⟨%e, H⟩
  isplitr
  · ipureintro; exact e () (Finset.mem_singleton_self _)
  · iexact H

/-- What every run ends in. -/
def Final (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = out c

set_option maxRecDepth 8000 in
theorem run_of (hb : Sound m O G' out)
    (hO : ∀ c : Dev nD, (levAts L lv : sProp 𝕄) ⊢ MayWait (c : Thread nD τ) (.dma ((cfg0.win (0 : Fin 1)).sem 0)) () (O c))
    (hglob : (bigSep Finset.univ fun c : Dev nD => iprop(owns0 c ∗ unscopedSems0 c ∗ G (xs m) c) : sProp 𝕄) ⊢ |={Set.univ}=> bigSep Finset.univ G') :
    θ_run defs (onTc (τ := τ) (main (F := F))) (s₀ m ρ) (fun r => Final m out r.2 ∧ r.2.sem = fun _ => 0) :=
  Pipeline.θ_run_region_owing_glob_pf (fun p => (cfgs p).toPCfg) (fun p => (cfgs p).toPCfg_adm) (dats m ρ O G' out) () cellOf_inj (0 : Fin 1)
    winFacts0.to₀ ownSemFacts (Pipeline.PreFacts.none _) EP defs₀ 𝒱₀ m ρ main
    (hmain := fun _ => rfl)
    (hbody := body_obligation m ρ O G' out hb) (hne := fun w => by fin_cases w; exact Nat.succ_pos _) (harr := arr_whole0) (hstage := stage_whole0)
    (hshare := share_eq m ρ O G' out)
    (hdistinct := winFacts0.arr_inj)
    (O₀ := O) (howed₀ := fun _ => rfl) (howedN := fun _ => rfl)
    (L := L) (lv := lv) (hL := L_of_ne) (hwaits := waits m ρ O G' out hO)
    (G := G (xs m)) (G' := G') (u₀ := u₀)
    (hu₀ := by
      iintro Hu
      ihave H := (launch_split (F := F)) $$ Hu
      icases H with ⟨HP, HX⟩
      imod (fund_all (xs m)) $$ HX with HG
      imodintro
      isplitl [HP] <;> iassumption)
    (hglob := hglob)
    (hA := fun _ _ => rfl) (hpf := fun _ k => k.elim0)
    (X := fun c => iprop(levAts L lv ∗ Pipeline.launchCred O c ∗ G' c ∗ xAll m c ∗ oAll c (m ((c : Thread nD τ).loc main_v1))))
    (Y := fun c => iprop(xAll m c ∗ oAll c (out c) ∗ unscopedSems0 c)) (Z := fun _ => iprop(emp))
    (hX := start_of m ρ O G') (hin := opening_of m ρ O G' out) (hout := exit_to m ρ O G' out)
    (QY := fun c s => (s.mem ((c : Thread nD τ).loc main_arg0) = m ((c : Thread nD τ).loc main_arg0) ∧ s.mem ((c : Thread nD τ).loc main_v1) = out c)
      ∧ ∀ sm : SemLoc sig, sm.isScoped .tc = false → s.sem ((c.tc : Thread nD τ), sm) = 0)
    (hY := fun c s' => by
      unfold xAll oAll
      iintro ⟨⟨Hx, Ho, Hu⟩, -, HSI⟩
      imod (Pipeline.unscopedSems0_read (X := unscopedSems0 c) (c := c) fupd_intro s') $$ [Hu HSI] with ⟨%hu, HSI⟩
      · isplitl [Hu] <;> iassumption
      ihave H := (read_one _ _ s') $$ [Hx HSI]
      · isplitl [Hx] <;> iassumption
      icases H with ⟨%hx, HSI⟩
      ihave H := (read_one _ _ s') $$ [Ho HSI]
      · isplitl [Ho] <;> iassumption
      icases H with ⟨%ho, HSI⟩
      imodintro
      isplitr
      · ipureintro; exact ⟨⟨hx, ho⟩, hu⟩
      · iexact HSI)
    (hQ := fun _ h hs => ⟨fun c => ⟨(h c).2.2.1.1, ((h c).1 (0 : Fin 1)).trans ((dats m ρ O G' out 0 c).arrAt_in (0 : Fin 1) rfl _), (h c).2.2.1.2⟩,
      sem_eq_zero hs fun c => (h c).2.2.2⟩)

end Run

end Cert.KernelIdeal.Exchange
end
-- ==== Proof.Body.lean ====
/-
The kernel's body in its two cases: the permutation swaps the blocks, or leaves them.
-/
module

public import proofs.«01_k».proof.Proof.Run

@[expose] public section

set_option synthInstance.maxSize 4096

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight wp_dmaLocal wp_waitLocal)

variable {F : FTy → Type} [FloatOps F]

local notation "𝕄" => MT nD τ sig Unit (Elt F) ℕ UU ℕ

variable (m : (ℓ : Loc nD τ sig) → Buf (Elt F) ℓ) (ρ : Dev nD → PrngReg)

/-! ## The word the body reads -/

abbrev piM : Memref sig .tc .smem S2 .i32 := Memref.whole cc0_stg0_0
abbrev rWord (c : Dev nD) : Rect S2 := Rect.unit (s := S2) (k0_off1 c) S1.size (k0_off1_inb c)

/-- The word of the permutation at the device's place on the `x` axis. -/
def word (c : Dev nD) : BitVec 32 := (piM.access (rWord c)).read (Elt F) (pis m c) (Shape.Idx.first (numel1_S1.symm ▸ Nat.one_pos))

/-- The place on the `x` axis, as an index into the permutation. -/
def at2 (c : Dev nD) : S2.Idx := fun a => ⟨c.val / 16, by fin_cases a; show c.val / 16 < 2; have h : c.val < 32 := c.isLt; omega⟩

theorem word_eq (c : Dev nD) : word m c = m ((c : Thread nD τ).loc main_arg1) (at2 c) := by
  have h : ((piM.access (rWord c)).emb (Shape.Idx.first (numel1_S1.symm ▸ Nat.one_pos)) : S2.Idx) = at2 c := by
    funext a
    refine Fin.ext ?_
    fin_cases a
    show k0_off1 c 0 + 1 * 0 = c.val / 16
    rw [k0_off1_eq]; rfl
  unfold word
  show m ((c : Thread nD τ).loc main_arg1) (((cfg0.win (0 : Fin 1)).blk t0_0).view.emb ((piM.access (rWord c)).emb _)) = _
  rw [h]
  refine congrArg _ (funext fun a => Fin.ext ?_)
  fin_cases a
  show 0 + 1 * (c.val / 16) = c.val / 16
  omega

/-- The body after its word. -/
def tail (c : Dev nD) (v : BitVec 32) (hw : k0_chk1 c v) : KProg F Unit := do
  if Scalar.cmpi .ne (Scalar.extui (Scalar.cmpi .eq v (coord c)) : BitVec 32) 0#32 = 1#1 then do
    keep
  else do
    pure ⟨⟩
  if h2 : k0_cond2 c v = 1#1 then do
    exchange (⟨k0_dev1 c v, k0_dev1_lt c v hw h2⟩ : Dev nD)
  else do
    pure ⟨⟩
  pure ⟨⟩

theorem wp_head (c : Dev nD) (hw : k0_chk1 c (word m c)) (Kt : PUnit → sProp 𝕄) :
    iprop(piAll m c ∗ (piAll m c -∗ wpc c (tail c (word m c) hw) Kt)) ⊢ wpc c (body piM) Kt := by
  unfold body piAll wpc
  simp only [smemLoad, smemLoadElt, Prog.lift, Prog.bind_op, Prog.bind_ret, Prog.bind_assoc, wp_deviceId]
  iintro ⟨Hp, Hk⟩
  iapply (wp_load_rect 𝒱₀ (c : Thread nD τ) none Set.univ (m := piM) (r := rWord c) (Finset.subset_univ _)) $$ Hp
  iintro Hp
  iapply (wp_assume 𝒱₀ (c : Thread nD τ) none Set.univ hw)
  iapply Hk
  iexact Hp

/-! ## The two cases of the word -/

def other (c : Dev nD) : BitVec 32 := BitVec.ofNat 32 (1 - c.val / 16)
def same (c : Dev nD) : BitVec 32 := BitVec.ofNat 32 (c.val / 16)

theorem other_dev : ∀ c : Dev nD, k0_dev1 c (other c) = (peer c).val := by decide
theorem other_cond : ∀ c : Dev nD, k0_cond2 c (other c) = 1#1 := by decide
theorem other_keep : ∀ c : Dev nD, ¬ Scalar.cmpi .ne (Scalar.extui (Scalar.cmpi .eq (other c) (coord c)) : BitVec 32) 0#32 = 1#1 := by decide
theorem same_cond : ∀ c : Dev nD, ¬ k0_cond2 c (same c) = 1#1 := by decide
theorem same_keep : ∀ c : Dev nD, Scalar.cmpi .ne (Scalar.extui (Scalar.cmpi .eq (same c) (coord c)) : BitVec 32) 0#32 = 1#1 := by decide

theorem other_chk (c : Dev nD) : k0_chk1 c (other c) := by
  have h : k0_dev1 c (other c) < nD := by rw [other_dev]; exact (peer c).isLt
  exact ⟨fun _ => h, fun _ => h, fun _ => h, fun _ => h, fun _ => h, fun _ => h, fun _ => h, fun _ => h, fun _ => h, fun _ => h,
    fun _ => h, fun _ => h, fun _ => h, fun _ => h, fun _ => h, fun _ => h, fun _ => h⟩
theorem same_chk (c : Dev nD) : k0_chk1 c (same c) :=
  have h : ∀ {P : Prop}, k0_cond2 c (same c) = 1#1 → P := fun e => absurd e (same_cond c)
  ⟨h, h, h, h, h, h, h, h, h, h, h, h, h, h, h, h, h⟩

theorem wpc_last (c : Dev nD) (p : KProg F Unit) (Kt : PUnit → sProp 𝕄) : wpc c p Kt ⊢ wpc c (p >>= fun _ => pure ⟨⟩) Kt :=
  Entails.of_eq (congrArg (fun p => wpc c p Kt) (bind_pure p).symm)

/-- A device whose word names the other one exchanges with its peer. -/
theorem tail_other (c : Dev nD) (Kt : PUnit → sProp 𝕄) :
    wpc c (exchange (F := F) (peer c)) Kt ⊢ wpc c (tail c (other c) (other_chk c)) Kt := by
  unfold tail
  rw [if_neg (other_keep c), dif_pos (other_cond c)]
  have e : (⟨k0_dev1 c (other c), k0_dev1_lt c (other c) (other_chk c) (other_cond c)⟩ : Dev nD) = peer c := Fin.ext (other_dev c)
  rw [e]
  generalize exchange (F := F) (peer c) = p
  exact wpc_last c p Kt

/-- A device whose word names itself keeps its block. -/
theorem tail_same (c : Dev nD) (Kt : PUnit → sProp 𝕄) :
    wpc c (keep (F := F)) Kt ⊢ wpc c (tail c (same c) (same_chk c)) Kt := by
  unfold tail
  rw [if_pos (same_keep c), dif_neg (same_cond c)]
  generalize (keep : KProg F Unit) = p
  exact wpc_last c p Kt

/-! ## From the buffers to their pieces and back -/

variable (X : Dev nD → S1x4096x2048.Idx → Elt F .f32)

theorem v_at (c : Dev nD) (s : Fin 2) (f : S2x256x2048.Idx → Elt F .f32) :
    (vPts c s f : sProp 𝕄) = iprop(((c : Thread nD τ).loc cc0_scratch0) ↦[(rTwo s).set]{fullShare} (f : Buf (Elt F) ((c : Thread nD τ).loc cc0_scratch0))) :=
  congrArg (fun J : Finset S2x256x2048.Idx => (((c : Thread nD τ).loc cc0_scratch0) ↦[J]{fullShare} (f : Buf (Elt F) ((c : Thread nD τ).loc cc0_scratch0)) : sProp 𝕄)) (set_vTwo s)
theorem w_at (c : Dev nD) (s : Fin 2) (f : S2x256x2048.Idx → Elt F .f32) :
    (wPts c s f : sProp 𝕄) = iprop(((c : Thread nD τ).loc cc0_scratch1) ↦[(rTwo s).set]{fullShare} (f : Buf (Elt F) ((c : Thread nD τ).loc cc0_scratch1))) :=
  congrArg (fun J : Finset S2x256x2048.Idx => (((c : Thread nD τ).loc cc0_scratch1) ↦[J]{fullShare} (f : Buf (Elt F) ((c : Thread nD τ).loc cc0_scratch1)) : sProp 𝕄)) (set_wTwo s)
theorem s_at (c : Dev nD) (k : Fin 16) (f : S16x256x2048.Idx → Elt F .bf16) :
    (sPts c k f : sProp 𝕄) = iprop(((c : Thread nD τ).loc cc0_scratch2) ↦[(rSlot k).set]{fullShare} (f : Buf (Elt F) ((c : Thread nD τ).loc cc0_scratch2))) :=
  congrArg (fun J : Finset S16x256x2048.Idx => (((c : Thread nD τ).loc cc0_scratch2) ↦[J]{fullShare} (f : Buf (Elt F) ((c : Thread nD τ).loc cc0_scratch2)) : sProp 𝕄)) (set_sSlot k)
theorem r_at (c : Dev nD) (k : Fin 16) (f : S16x256x2048.Idx → Elt F .bf16) :
    (rPts c k f : sProp 𝕄) = iprop(((c : Thread nD τ).loc cc0_scratch3) ↦[(rSlot k).set]{fullShare} (f : Buf (Elt F) ((c : Thread nD τ).loc cc0_scratch3))) :=
  congrArg (fun J : Finset S16x256x2048.Idx => (((c : Thread nD τ).loc cc0_scratch3) ↦[J]{fullShare} (f : Buf (Elt F) ((c : Thread nD τ).loc cc0_scratch3)) : sProp 𝕄)) (set_rcSlot k)
theorem o_at (c : Dev nD) (k : Fin 16) (f : S1x4096x2048.Idx → Elt F .f32) :
    (oPts c k f : sProp 𝕄) = iprop(((c : Thread nD τ).loc main_v1) ↦[(rRow k).set]{fullShare} (f : Buf (Elt F) ((c : Thread nD τ).loc main_v1))) :=
  congrArg (fun J : Finset S1x4096x2048.Idx => (((c : Thread nD τ).loc main_v1) ↦[J]{fullShare} (f : Buf (Elt F) ((c : Thread nD τ).loc main_v1)) : sProp 𝕄)) (set_oRow k)

theorem v_cut (c : Dev nD) : iprop(∃ f : Buf (Elt F) ((c : Thread nD τ).loc cc0_scratch0), ((c : Thread nD τ).loc cc0_scratch0) ↦{fullShare} f)
    ⊢ iprop((∃ f, vPts (F := F) c 0 f) ∗ (∃ f, vPts (F := F) c 1 f) : sProp 𝕄) := by
  simp only [v_at]
  exact (cut ((c : Thread nD τ).loc cc0_scratch0) (fun s : Fin 2 => (rTwo s).set) two_cover two_disjoint).trans (Entails.of_eq (bigSep_fin_two _))
theorem w_cut (c : Dev nD) : iprop(∃ f : Buf (Elt F) ((c : Thread nD τ).loc cc0_scratch1), ((c : Thread nD τ).loc cc0_scratch1) ↦{fullShare} f)
    ⊢ iprop((∃ f, wPts (F := F) c 0 f) ∗ (∃ f, wPts (F := F) c 1 f) : sProp 𝕄) := by
  simp only [w_at]
  exact (cut ((c : Thread nD τ).loc cc0_scratch1) (fun s : Fin 2 => (rTwo s).set) two_cover two_disjoint).trans (Entails.of_eq (bigSep_fin_two _))
theorem s_cut (c : Dev nD) : iprop(∃ f : Buf (Elt F) ((c : Thread nD τ).loc cc0_scratch2), ((c : Thread nD τ).loc cc0_scratch2) ↦{fullShare} f)
    ⊢ (sAny c : sProp 𝕄) := by
  unfold sAny
  simp only [s_at]
  exact cut ((c : Thread nD τ).loc cc0_scratch2) (fun k : Fin 16 => (rSlot k).set) slot_cover slot_disjoint
theorem r_cut (c : Dev nD) : iprop(∃ f : Buf (Elt F) ((c : Thread nD τ).loc cc0_scratch3), ((c : Thread nD τ).loc cc0_scratch3) ↦{fullShare} f)
    ⊢ (rAny c : sProp 𝕄) := by
  unfold rAny
  simp only [r_at]
  exact cut ((c : Thread nD τ).loc cc0_scratch3) (fun k : Fin 16 => (rSlot k).set) slot_cover slot_disjoint
theorem o_pieces (c : Dev nD) (f : S1x4096x2048.Idx → Elt F .f32) : (oAll c f : sProp 𝕄) = bigSep Finset.univ fun k : Fin 16 => oPts c k f := by
  simp only [o_at]
  exact whole_pieces ((c : Thread nD τ).loc main_v1) (fun k : Fin 16 => (rRow k).set) row_cover row_disjoint f

theorem v_glue (c : Dev nD) (f₀ : S2x256x2048.Idx → Elt F .f32) : iprop((∃ f, vPts (F := F) c 0 f) ∗ (∃ f, vPts (F := F) c 1 f) : sProp 𝕄)
    ⊢ iprop(∃ f : Buf (Elt F) ((c : Thread nD τ).loc cc0_scratch0), ((c : Thread nD τ).loc cc0_scratch0) ↦{fullShare} f) := by
  simp only [v_at]
  exact (Entails.of_eq (bigSep_fin_two _).symm).trans (glue ((c : Thread nD τ).loc cc0_scratch0) (fun s : Fin 2 => (rTwo s).set) two_cover two_disjoint f₀)
theorem w_glue (c : Dev nD) (f₀ : S2x256x2048.Idx → Elt F .f32) : iprop((∃ f, wPts (F := F) c 0 f) ∗ (∃ f, wPts (F := F) c 1 f) : sProp 𝕄)
    ⊢ iprop(∃ f : Buf (Elt F) ((c : Thread nD τ).loc cc0_scratch1), ((c : Thread nD τ).loc cc0_scratch1) ↦{fullShare} f) := by
  simp only [w_at]
  exact (Entails.of_eq (bigSep_fin_two _).symm).trans (glue ((c : Thread nD τ).loc cc0_scratch1) (fun s : Fin 2 => (rTwo s).set) two_cover two_disjoint f₀)
theorem s_join (c : Dev nD) (f : S16x256x2048.Idx → Elt F .bf16) : (bigSep Finset.univ fun k : Fin 16 => sPts c k f : sProp 𝕄)
    = iprop(((c : Thread nD τ).loc cc0_scratch2) ↦{fullShare} (f : Buf (Elt F) ((c : Thread nD τ).loc cc0_scratch2))) := by
  simp only [s_at]
  exact (whole_pieces ((c : Thread nD τ).loc cc0_scratch2) (fun k : Fin 16 => (rSlot k).set) slot_cover slot_disjoint f).symm
theorem r_join (c : Dev nD) (f : S16x256x2048.Idx → Elt F .bf16) : (bigSep Finset.univ fun k : Fin 16 => rPts c k f : sProp 𝕄)
    = iprop(((c : Thread nD τ).loc cc0_scratch3) ↦{fullShare} (f : Buf (Elt F) ((c : Thread nD τ).loc cc0_scratch3))) := by
  simp only [r_at]
  exact (whole_pieces ((c : Thread nD τ).loc cc0_scratch3) (fun k : Fin 16 => (rSlot k).set) slot_cover slot_disjoint f).symm

theorem x_halves (c : Dev nD) : (xAll m c : sProp 𝕄) ⊣⊢ iprop(xPts (xs m) c 0 ∗ xPts (xs m) c 1) :=
  pointsTo_share (PosShare.mem_left_op_right fullShare)

theorem nears_eq (c : Dev nD) : (nears c : sProp 𝕄)
    = iprop((semVal ((c : Thread nD τ), .dma (inSem 0)) 0 ∗ semVal ((c : Thread nD τ), .dma (inSem 1)) 0)
      ∗ (semVal ((c : Thread nD τ), .dma (outSem 0)) 0 ∗ semVal ((c : Thread nD τ), .dma (outSem 1)) 0)
      ∗ semVal ((c : Thread nD τ), .dma ownSem) 0) := by
  unfold nears
  rw [bigSep_univ_sum, bigSep_univ_sum, bigSep_fin_two, bigSep_fin_two, show (Finset.univ : Finset Unit) = {()} from rfl, bigSep_singleton]
  rfl

/-- The pieces the exchange works on. -/
theorem to_pieces (c : Dev nD) (f : S1x4096x2048.Idx → Elt F .f32) :
    iprop(scratch c ∗ oAll c f ∗ xAll m c ∗ nears c) ⊢ iprop(before (xs m) c ∗ semVal ((c : Thread nD τ), .dma ownSem) 0 : sProp 𝕄) := by
  unfold scratch
  rw [scopedRest0_eq, o_pieces, nears_eq]
  iintro ⟨⟨Hv, Hw, Hs, Hr⟩, Ho, Hx, ⟨Hi0, Hi1⟩, ⟨Ho0, Ho1⟩, Hown⟩
  ihave Hv := (v_cut (F := F) c) $$ Hv
  ihave Hw := (w_cut (F := F) c) $$ Hw
  ihave Hs := (s_cut (F := F) c) $$ Hs
  ihave Hr := (r_cut (F := F) c) $$ Hr
  ihave Hx := (x_halves m c).1 $$ Hx
  icases Hv with ⟨Hv0, Hv1⟩
  icases Hw with ⟨Hw0, Hw1⟩
  icases Hx with ⟨Hx0, Hx1⟩
  isplitr [Hown]
  · unfold before vFree wFree
    isplitl [Hv0 Hi0 Hx0]
    · isplitl [Hv0]; · iexact Hv0
      isplitl [Hi0] <;> iassumption
    isplitl [Hv1 Hi1 Hx1]
    · isplitl [Hv1]; · iexact Hv1
      isplitl [Hi1] <;> iassumption
    isplitl [Hw0 Ho0]
    · isplitl [Hw0] <;> iassumption
    isplitl [Hw1 Ho1]
    · isplitl [Hw1] <;> iassumption
    isplitl [Hs]; · iexact Hs
    isplitl [Hr]; · iexact Hr
    unfold oAny
    iapply (show (bigSep Finset.univ fun k : Fin 16 => oPts (F := F) c k f : sProp 𝕄) ⊢ bigSep Finset.univ fun k : Fin 16 => iprop(∃ f, oPts (F := F) c k f) from
      bigSep_mono fun k _ => exists_intro (Φ := fun f => oPts (F := F) c k f) f)
    iexact Ho
  · iexact Hown

/-- And what becomes of them. -/
theorem of_pieces (c : Dev nD) :
    iprop(after (xs m) c ∗ semVal ((c : Thread nD τ), .dma ownSem) 0 : sProp 𝕄)
      ⊢ iprop(scratch c ∗ oAll c (resultC (xs m (peer c))) ∗ xAll m c ∗ nears c) := by
  unfold scratch
  rw [scopedRest0_eq, o_pieces, nears_eq]
  unfold after vFree wFree
  rw [s_join, r_join]
  iintro ⟨⟨⟨Hv0, Hi0, Hx0⟩, ⟨Hv1, Hi1, Hx1⟩, ⟨Hw0, Ho0⟩, ⟨Hw1, Ho1⟩, Hs, Hr, Ho⟩, Hown⟩
  isplitl [Hv0 Hv1 Hw0 Hw1 Hs Hr]
  · isplitl [Hv0 Hv1]
    · iapply (v_glue (F := F) c (m ((c : Thread nD τ).loc cc0_scratch0)))
      isplitl [Hv0] <;> iassumption
    isplitl [Hw0 Hw1]
    · iapply (w_glue (F := F) c (m ((c : Thread nD τ).loc cc0_scratch1)))
      isplitl [Hw0] <;> iassumption
    isplitl [Hs]
    · iexists _; iexact Hs
    · iexists _; iexact Hr
  isplitl [Ho]
  · unfold outDone; iexact Ho
  isplitl [Hx0 Hx1]
  · iapply (x_halves m c).2
    isplitl [Hx0] <;> iassumption
  isplitl [Hi0 Hi1]
  · isplitl [Hi0] <;> iassumption
  isplitl [Ho0 Ho1]
  · isplitl [Ho0] <;> iassumption
  iexact Hown

/-! ## The body -/

/-- Every device's word names the other: each ends with its peer's block, sent narrowed and widened again. -/
theorem sound_swap (hw : ∀ c, word m c = other c) : Sound m O₀ (ghost (xs m)) (fun c => resultC (xs m (peer c))) := by
  intro c Kt
  have hchk : k0_chk1 c (word m c) := by rw [hw]; exact other_chk c
  have htail : wpc c (exchange (F := F) (peer c)) Kt ⊢ wpc c (tail c (word m c) hchk) Kt := by
    have h := tail_other (F := F) c Kt
    simp only [← hw c] at h
    exact h
  unfold opening ghost
  iintro ⟨⟨#Hl, Hc, ⟨⟨%K, #HI, #HI'⟩, ⟨#HB, #HB'⟩, Hp, Ht, Hn⟩, Hx, Ho, Hs⟩, HO, Hpi, Hk⟩
  iapply (wp_head m c hchk Kt)
  isplitl [Hpi]; · iexact Hpi
  iintro Hpi
  iapply htail
  ihave Hc := (creds_of (F := F) c) $$ Hc
  ihave H := (to_pieces m c _) $$ [Hs Ho Hx Hn]
  · isplitl [Hs]; · iexact Hs
    isplitl [Ho]; · iexact Ho
    isplitl [Hx] <;> iassumption
  icases H with ⟨Hb, Hown⟩
  iapply (wp_exchange (xs m) K c Kt)
  isplitr
  · unfold env
    isplitr; · iexact HI
    isplitr; · iexact HI'
    isplitr; · iexact HB
    isplitr; · iexact HB'
    iexact Hl
  isplitl [Hb]; · iexact Hb
  isplitl [Ht]; · iexact Ht
  isplitl [Hp]; · iexact Hp
  isplitl [Hc]; · iexact Hc
  isplitl [HO]; · iexact HO
  iintro ⟨Ha, Hz, HO⟩
  iapply Hk
  isplitr [HO Hpi]
  · ihave H := (of_pieces m c) $$ [Ha Hown]
    · isplitl [Ha] <;> iassumption
    icases H with ⟨Hs, Ho, Hx, Hn⟩
    unfold closing
    isplitl [Hx]; · iexact Hx
    isplitl [Ho]; · iexact Ho
    isplitl [Hn]; · iexact Hn
    isplitl [Hz] <;> iassumption
  isplitl [HO] <;> iassumption

/-- Every device's word names itself: each ends with its own block. -/
theorem sound_stay (hw : ∀ c, word m c = same c) : Sound m (fun _ => 0) (fun c => iprop(owns0 c ∗ unscopedSems0 c)) (xs m) := by
  intro c Kt
  have hchk : k0_chk1 c (word m c) := by rw [hw]; exact same_chk c
  have htail : wpc c (keep (F := F)) Kt ⊢ wpc c (tail c (word m c) hchk) Kt := by
    have h := tail_same (F := F) c Kt
    simp only [← hw c] at h
    exact h
  unfold opening
  have hs := (sems_eq (F := F) c).trans (congrArg (fun P : sProp 𝕄 => iprop(P ∗ zeros c)) (nears_eq c))
  unfold closing
  beta_reduce
  rw [hs]
  iintro ⟨⟨#Hl, Hc, ⟨⟨Hi, Hu, Hown⟩, Hz⟩, Hx, Ho, Hs⟩, HO, Hpi, Hk⟩
  iapply (wp_head m c hchk Kt)
  isplitl [Hpi]; · iexact Hpi
  iintro Hpi
  iapply htail
  unfold keep wpc Prog.lift owesE
  icases HO with ⟨%W, HO⟩
  rw [wp_bind]
  unfold xAll oAll
  iapply (wp_dmaLocal EC 𝒱₀ (c : Thread nD τ) none (src := xM) (dst := oM) (sm := .dma ownSem) () (oM.view.dmaCredit) rfl (View.dmaCredit_pos _ (by decide)) (q := fullShare) (fs := xs m c) (Sd := Finset.univ)
    (Finset.subset_univ _)) $$ [Hx Ho Hown]
  · rw [View.set_whole]
    isplitl [Hx]; · iexact Hx
    isplitl [Ho] <;> iassumption
  iintro Hf
  rw [wp_ret]; imodintro
  iapply (wp_waitLocal EC 𝒱₀ (c : Thread nD τ) none (srcw := xM) (dstw := oM) () (N := oM.view.dmaCredit) rfl) $$ [Hf HO]
  · isplitl [Hf] <;> iassumption
  iintro ⟨⟨Ho, Hx⟩, Hown, HO⟩
  rw [wp_ret]; imodintro
  rw [View.set_whole, View.write_whole_univ]
  iapply Hk
  isplitr [HO Hpi]
  · isplitl [Hx]; · iexact Hx
    isplitl [Ho]; · iexact Ho
    isplitl [Hi Hu Hown]
    · rw [nears_eq]
      isplitl [Hi]; · iexact Hi
      isplitl [Hu] <;> iassumption
    isplitl [Hz] <;> iassumption
  isplitl [HO]
  · iexists _; iexact HO
  iexact Hpi

/-! ## The launch, in the two cases -/

variable (ρ : Dev nD → PrngReg)

theorem run_swap (hw : ∀ c, word m c = other c) :
    θ_run defs (onTc main) (s₀ m ρ) (fun r => Final m (fun c => resultC (xs m (peer c))) r.2 ∧ r.2.sem = fun _ => 0) :=
  run_of m ρ O₀ (ghost (xs m)) _ (sound_swap m hw) (fun c => mayWait_dma₀ c _ (by decide)) (set_up (xs m))

theorem stay_up : (bigSep Finset.univ fun c : Dev nD => iprop(owns0 c ∗ unscopedSems0 c ∗ G X c) : sProp 𝕄)
    ⊢ |={Set.univ}=> bigSep Finset.univ fun c : Dev nD => iprop(owns0 c ∗ unscopedSems0 c) := by
  have h : ∀ c : Dev nD, iprop(owns0 c ∗ unscopedSems0 c ∗ G X c : sProp 𝕄) ⊢ iprop(owns0 c ∗ unscopedSems0 c) := fun c => by
    iintro ⟨Ho, Hu, HG⟩
    isplitl [Ho] <;> iassumption
  have h' : (bigSep Finset.univ fun c : Dev nD => iprop(owns0 c ∗ unscopedSems0 c ∗ G X c) : sProp 𝕄)
    ⊢ bigSep Finset.univ fun c : Dev nD => iprop(owns0 c ∗ unscopedSems0 c) := bigSep_mono fun c _ => h c
  iintro H
  imodintro
  iapply h'
  iexact H

theorem run_stay (hw : ∀ c, word m c = same c) :
    θ_run defs (onTc main) (s₀ m ρ) (fun r => Final m (xs m) r.2 ∧ r.2.sem = fun _ => 0) :=
  run_of m ρ (fun _ => 0) _ _ (sound_stay m hw) (fun c => by rw [MayWait_zero]; exact BI.true_intro) (stay_up (xs m))

end Cert.KernelIdeal.Exchange
end
-- ==== Proof.Given.lean ====
/-
What each precondition says of the word the body reads, and the runs under it.
-/
module

public import proofs.«01_k».proof.Proof.Body
public import proofs.«01_k».proof.Proof.Gen.Pre_swap_Kernel
public import proofs.«01_k».proof.Proof.Gen.Pre_stay_Kernel

@[expose] public section

noncomputable section

namespace Cert.KernelIdeal.Exchange

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Two words whose comparison for equality is the bit one are equal. -/
theorem eq_of_cmpi (a b : BitVec 32) (h : IntOp.cmpi .eq a b = 1#1) : a = b := by
  have hb : ∀ p : Bool, BitVec.ofBool p = 1#1 → p = true := by decide
  exact eq_of_beq (hb _ h)

theorem lit_swap : ∀ c : Dev nD, Cert.Pre_swap_Kernel.lit0 (S2.rowMajor (at2 c)) = other c := by decide
theorem lit_stay : ∀ c : Dev nD, Cert.Pre_stay_Kernel.lit0 (S2.rowMajor (at2 c)) = same c := by decide

/-- The permutation that swaps: every device's word names the other block. -/
theorem word_swap (h : ∀ c : Dev nD, Cert.Pre_swap_Kernel.fn (F := F) (m ((c : Thread nD τ).loc main_arg0)) (m ((c : Thread nD τ).loc main_arg1)) = fun _ => 1#1)
    (c : Dev nD) : word m c = other c :=
  (word_eq m c).trans ((eq_of_cmpi _ _ (congrFun (h c) (at2 c))).trans (lit_swap c))

/-- The identity: every device's word names its own. -/
theorem word_stay (h : ∀ c : Dev nD, Cert.Pre_stay_Kernel.fn (F := F) (m ((c : Thread nD τ).loc main_arg0)) (m ((c : Thread nD τ).loc main_arg1)) = fun _ => 1#1)
    (c : Dev nD) : word m c = same c :=
  (word_eq m c).trans ((eq_of_cmpi _ _ (congrFun (h c) (at2 c))).trans (lit_stay c))

/-- The arguments end unchanged and every counter at zero. -/
def Framed (m : (ℓ : Loc nD τ sig) → Buf (Elt F) ℓ) (s : MemSt nD τ sig (Elt F)) : Prop :=
  (∀ c : Dev nD, s.mem ((c : Thread nD τ).loc main_arg0) = m ((c : Thread nD τ).loc main_arg0)
      ∧ s.mem ((c : Thread nD τ).loc main_arg1) = m ((c : Thread nD τ).loc main_arg1)) ∧ s.sem = fun _ => 0

theorem framed {out : Dev nD → S1x4096x2048.Idx → Elt F .f32}
    (h : θ_run defs (onTc (τ := τ) (main (F := F))) (s₀ m ρ) (fun r => Final m out r.2 ∧ r.2.sem = fun _ => 0)) :
    θ_run defs (onTc (τ := τ) (main (F := F))) (s₀ m ρ) (fun r => Framed m r.2) :=
  (θ_run _ _ _).mono (fun _ h => ⟨fun c => ⟨(h.1 c).1, (h.1 c).2.1⟩, h.2⟩) h

end Cert.KernelIdeal.Exchange
end
-- ==== Proof.Reference.lean ====
/-
What the reference computes: the rows of `x` at the sorting order of the permutation. For a permutation of
two elements that order is the permutation again, so row `r` of the result is row `1 - r` of `x` or row `r`.
-/
module

public import proofs.«01_k».proof.Proof.Gen.ReferenceIdeal.Run
public import proofs.«01_k».proof.Proof.Gen.Pre_swap_Kernel
public import proofs.«01_k».proof.Proof.Gen.Pre_stay_Kernel
public import Idealize.ShloMosaic.Lib.Quiescent

@[expose] public section

noncomputable section

namespace Cert.ReferenceIdeal.Rows

open Cert.ReferenceIdeal Cert.ReferenceIdeal.Gen
open Idealize.ShloMosaic
open Idealize.ShloMosaic.TcCoe
open Idealize.SL.Sem

variable {F : FTy → Type} [FloatOps F]

/-- The places of the permutation's elements in sorted order, -/
def order (pi : IVec S2 32) : IVec S2 32 := (Host.sort2 S2 0 comparator_i32_i32_d0 pi (iotaInDim S2 32 0)).2

/-- counted from the end where negative: the rows gathered. -/
def rows (pi : IVec S2 32) : IVec S2x1 32 :=
  broadcastInDim S2x1 ![0] bcast_S2_S2x1_0
    (select (cmpi .slt (order pi) (broadcastInDim S2 ![] bcast_S_S2 (constantI S_ 32 0#32)))
      (addi (order pi) (broadcastInDim S2 ![] bcast_S_S2 (constantI S_ 32 2#32))) (order pi))

/-- The place of row `r` in the table of rows. -/
def at2 (r : Fin 2) : S2x1.Idx := fun a => match a with | ⟨0, _⟩ => r | ⟨1, _⟩ => ⟨0, Nat.one_pos⟩

theorem rows_swap : ∀ r : Fin 2, (rows (fun i => Cert.Pre_swap_Kernel.lit0 (S2.rowMajor i)) (at2 r)).toInt.toNat = 1 - r.val := by decide
theorem rows_stay : ∀ r : Fin 2, (rows (fun i => Cert.Pre_stay_Kernel.lit0 (S2.rowMajor i)) (at2 r)).toInt.toNat = r.val := by decide

abbrev dims : GatherDims S2x4096x2048 S2x1 S2x4096x2048 := gather_S2x4096x2048_S2x1_S2x4096x2048_12_0_n_n_0_1_140962048

/-- The row the gather reads, at most the last; -/
theorem start_row (idx : IVec S2x1 32) (j : S2x4096x2048.Idx) : dims.start j idx 0 = min (idx (at2 (j 0))).toInt.toNat 1 := by
  have hmem : (0 : Fin 3) ∈ dims.startIndexMap := List.mem_singleton.mpr rfl
  unfold GatherDims.start
  rw [dif_pos hmem]
  have h : dims.siIdx j ⟨dims.startIndexMap.idxOf 0, List.idxOf_lt_length_iff.2 hmem⟩ = at2 (j 0) := by
    funext b; refine Fin.ext ?_
    match b with
    | ⟨0, _⟩ => rfl
    | ⟨1, _⟩ => rfl
  rw [h]
  rfl

/-- the other coordinates are the result's. -/
theorem gathered (x : S2x4096x2048.Idx → Elt F .f32) (idx : IVec S2x1 32) (j k : S2x4096x2048.Idx)
    (h0 : (k 0).val = min (idx (at2 (j 0))).toInt.toNat 1) (h1 : (k 1).val = (j 1).val) (h2 : (k 2).val = (j 2).val) :
    Host.gather dims x idx j = x k := by
  unfold Host.gather
  refine congrArg x (funext fun a => Fin.ext ?_)
  show dims.start j idx a + dims.batchCoord j a + dims.offCoord j a = (k a).val
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    exact (start_row idx j).trans h0.symm
  | ⟨1, _⟩ =>
    rw [show dims.start j idx ⟨1, by decide⟩ = 0 from by unfold GatherDims.start; exact dif_neg (by decide)]
    exact (Nat.zero_add _).trans h1.symm
  | ⟨2, _⟩ =>
    rw [show dims.start j idx ⟨2, by decide⟩ = 0 from by unfold GatherDims.start; exact dif_neg (by decide)]
    exact (Nat.zero_add _).trans h2.symm

/-- The reference's run, its counters included. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c : Thread nD τ).loc main_v7) = Host.gather dims (m ((c : Thread nD τ).loc main_arg0)) (rows (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun r h => ⟨h, sem_eq_zero_of_no_sems (by decide) r.2⟩) (Value.run m ρ)

end Cert.ReferenceIdeal.Rows
end
-- ==== Proof.Value.lean ====
/-
Over the extended reals: each device's result is its block of the reference's result.
-/
module

public import proofs.«01_k».proof.Proof.Given
public import proofs.«01_k».proof.Proof.Reference
public import proofs.«01_k».proof.Defs

@[expose] public section

noncomputable section

namespace Cert.Value

open Idealize.ShloMosaic
open Idealize.ShloMosaic.TcCoe
open Idealize.SL.Sem
open Cert.KernelIdeal.Exchange (peer resultC xs Final run_swap run_stay word_swap word_stay)
open Cert.ReferenceIdeal.Rows (rows dims gathered rows_swap rows_stay)

/-- Device `c`'s block of an array cut along its first axis by the mesh's first axis. -/
abbrev blockOf {α : Type} (c : Dev Cert.KernelIdeal.nD) (v : Cert.ReferenceIdeal.S2x4096x2048.Idx → α) : Cert.KernelIdeal.S1x4096x2048.Idx → α :=
  Layout.blockN ⟨3, ![1, 4096, 2048]⟩ ⟨3, ![2, 4096, 2048]⟩ (Layout.meshBlock [2, 4, 4] ![[0], [], []] c) v

/-- Where an element of the block lies. -/
abbrev placeOf (c : Dev Cert.KernelIdeal.nD) (i : Cert.KernelIdeal.S1x4096x2048.Idx) : Cert.ReferenceIdeal.S2x4096x2048.Idx :=
  Layout.TilesN.idx (S := ⟨3, ![1, 4096, 2048]⟩) (T := ⟨3, ![2, 4096, 2048]⟩) (by decide) (Layout.meshBlock [2, 4, 4] ![[0], [], []] c) i

theorem lin_eq : ∀ c : Dev Cert.KernelIdeal.nD, Layout.meshLin [2, 4, 4] c.val [0] = c.val / 16 := by decide
theorem peer_div : ∀ c : Dev Cert.KernelIdeal.nD, (peer c).val / 16 = 1 - c.val / 16 := by decide
theorem div_le (c : Dev Cert.KernelIdeal.nD) : c.val / 16 ≤ 1 := by have h : c.val < 32 := c.isLt; omega

theorem place0 (c : Dev Cert.KernelIdeal.nD) (i : Cert.KernelIdeal.S1x4096x2048.Idx) : (placeOf c i 0).val = c.val / 16 := by
  have h : (i 0).val < 1 := (i 0).isLt
  show Layout.meshLin [2, 4, 4] c.val [0] * 1 + (i 0).val = c.val / 16
  rw [lin_eq]; omega
theorem place1 (c : Dev Cert.KernelIdeal.nD) (i : Cert.KernelIdeal.S1x4096x2048.Idx) : (placeOf c i 1).val = (i 1).val := by
  show 0 * 4096 + (i 1).val = (i 1).val; omega
theorem place2 (c : Dev Cert.KernelIdeal.nD) (i : Cert.KernelIdeal.S1x4096x2048.Idx) : (placeOf c i 2).val = (i 2).val := by
  show 0 * 2048 + (i 2).val = (i 2).val; omega

/-- A gather whose row `c / 16` is row `d / 16` of `x`: block `c` of it is block `d` of `x`. -/
theorem block_gather (c d : Dev Cert.KernelIdeal.nD) (x : Cert.ReferenceIdeal.S2x4096x2048.Idx → Elt Ideal .f32) (idx : IVec Cert.ReferenceIdeal.S2x1 32)
    (h : ∀ r : Fin 2, r.val = c.val / 16 → (idx (Cert.ReferenceIdeal.Rows.at2 r)).toInt.toNat = d.val / 16) :
    blockOf c (Host.gather dims x idx) = blockOf d x := by
  funext i
  refine gathered x idx (placeOf c i) (placeOf d i) ?_ ((place1 d i).trans (place1 c i).symm) ((place2 d i).trans (place2 c i).symm)
  rw [place0, h _ (place0 c i), Nat.min_eq_left (div_le d)]

/-- Narrowing and widening change nothing over the extended reals. -/
theorem resultC_ideal (X : Cert.KernelIdeal.S1x4096x2048.Idx → Elt Ideal .f32) : resultC X = X := rfl

theorem algebraic_swap [Cert.Pre_swap_Kernel.Facts] : Cert.algebraic_KernelIdeal_ReferenceIdeal := by
  intro m g m' g' hpre hargs
  have hpi : m' (((0 : Dev Cert.ReferenceIdeal.nD).tc : Thread Cert.ReferenceIdeal.nD Cert.ReferenceIdeal.τ).loc Cert.ReferenceIdeal.main_arg1)
      = fun i => Cert.Pre_swap_Kernel.lit0 (Cert.ReferenceIdeal.S2.rowMajor i) :=
    ((hargs 0).2.symm).trans (funext fun i => Cert.KernelIdeal.Exchange.eq_of_cmpi _ _ (congrFun (hpre 0) i))
  refine ⟨_, (θ_run _ _ _).mono (fun r h c => ?_) (run_swap m g (word_swap m hpre)),
    (θ_run _ _ _).mono (fun r h => h.1 0) (Cert.ReferenceIdeal.Rows.run m' g')⟩
  refine ⟨?_, (h.1 c).1, (h.1 c).2.1⟩
  rw [(h.1 c).2.2]
  beta_reduce
  rw [resultC_ideal, hpi]
  refine ((hargs (peer c)).1).trans (block_gather c (peer c) _ _ fun r hr => ?_).symm
  rw [rows_swap, peer_div, hr]

theorem algebraic_stay [Cert.Pre_stay_Kernel.Facts] : Cert.algebraic_KernelIdeal_ReferenceIdeal_pre_stay_Kernel := by
  intro m g m' g' hpre hargs
  have hpi : m' (((0 : Dev Cert.ReferenceIdeal.nD).tc : Thread Cert.ReferenceIdeal.nD Cert.ReferenceIdeal.τ).loc Cert.ReferenceIdeal.main_arg1)
      = fun i => Cert.Pre_stay_Kernel.lit0 (Cert.ReferenceIdeal.S2.rowMajor i) :=
    ((hargs 0).2.symm).trans (funext fun i => Cert.KernelIdeal.Exchange.eq_of_cmpi _ _ (congrFun (hpre 0) i))
  refine ⟨_, (θ_run _ _ _).mono (fun r h c => ?_) (run_stay m g (word_stay m hpre)),
    (θ_run _ _ _).mono (fun r h => h.1 0) (Cert.ReferenceIdeal.Rows.run m' g')⟩
  refine ⟨?_, (h.1 c).1, (h.1 c).2.1⟩
  rw [(h.1 c).2.2, hpi]
  refine ((hargs c).1).trans (block_gather c c _ _ fun r hr => ?_).symm
  rw [rows_stay, hr]

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.BitsGiven
public import proofs.«01_k».proof.Proof.Gen.Pre_swap_Kernel
public import proofs.«01_k».proof.Proof.Gen.Pre_stay_Kernel
public import proofs.«01_k».proof.Proof.Gen.Pre_swap_ReferenceIdeal
public import proofs.«01_k».proof.Proof.Gen.Pre_stay_ReferenceIdeal
public import Idealize.ShloMosaic.Adequacy
public import Idealize.ShloMosaic.Init

@[expose] public section

noncomputable section

namespace Cert.Proof

open Idealize.ShloMosaic Idealize.SL.Sem Cert.Kernel

/-- The reference runs, its arguments unchanged and every counter at zero: it has no counter. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun _ h => ⟨fun c => (h.1 c).2, h.2⟩) (Cert.ReferenceIdeal.Rows.run m g)

theorem claim : Cert.Claim := ⟨Cert.Kernel.Gen.facts, Cert.KernelIdeal.Gen.facts, Cert.ReferenceIdeal.Gen.facts, Cert.Pre_swap_Kernel.Gen.facts, Cert.Pre_stay_Kernel.Gen.facts, Cert.Pre_swap_ReferenceIdeal.Gen.facts, Cert.Pre_stay_ReferenceIdeal.Gen.facts,
  fun m g h => Cert.Kernel.Exchange.framed m g (Cert.Kernel.Exchange.run_swap m g (Cert.Kernel.Exchange.word_swap m h)),
  fun m g h => Cert.Kernel.Exchange.framed m g (Cert.Kernel.Exchange.run_stay m g (Cert.Kernel.Exchange.word_stay m h)),
  fun m g h => Cert.KernelIdeal.Exchange.framed m g (Cert.KernelIdeal.Exchange.run_swap m g (Cert.KernelIdeal.Exchange.word_swap m h)),
  fun m g h => Cert.KernelIdeal.Exchange.framed m g (Cert.KernelIdeal.Exchange.run_stay m g (Cert.KernelIdeal.Exchange.word_stay m h)),
  fun m g _ => ref_frame m g, fun m g _ => ref_frame m g, fun m g _ => ref_frame m g,
  trivial,
  Cert.Value.algebraic_swap, Cert.Value.algebraic_stay⟩

end Cert.Proof

end
